-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S32x8 : Shape := ⟨2, ![32, 8]⟩
abbrev S100000x64 : Shape := ⟨2, ![100000, 64]⟩
abbrev S2048x64 : Shape := ⟨2, ![2048, 64]⟩
abbrev S64x100000 : Shape := ⟨2, ![64, 100000]⟩
abbrev S100000 : Shape := ⟨1, ![100000]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel

variable [Facts]

def fn {F : FTy → Type} [FloatOps F] (main_arg0 : IVec S32x8 32) (main_arg1 : FVec F S100000x64 .f32) (main_arg2 : FVec F S2048x64 .f32) (main_arg3 : FVec F S64x100000 .f32) (main_arg4 : FVec F S100000 .f32) : IVec S_ 1 :=
  let main_c : IVec S_ 32 := constantI S_ 32 0#32
  let main_v0 : IVec S32x8 32 := broadcastInDim S32x8 ![] bcast_S_S32x8 main_c
  let main_v1 : IVec S32x8 1 := cmpi .sge main_arg0 main_v0
  let main_c_0 : IVec S_ 32 := constantI S_ 32 100000#32
  let main_v2 : IVec S32x8 32 := broadcastInDim S32x8 ![] bcast_S_S32x8 main_c_0
  let main_v3 : IVec S32x8 1 := cmpi .slt main_arg0 main_v2
  let main_v4 : IVec S32x8 1 := andi main_v1 main_v3
  let main_c_1 : IVec S_ 1 := constantI S_ 1 1#1
  let main_v5 : IVec S_ 1 := (fun x v => Host.reduce IntOp.andi x v reducesTo_S32x8_S_d0_1 h_S_) main_v4 main_c_1
  main_v5
-- ==== Kernel.lean ====
abbrev S32x8 : Shape := ⟨2, ![32, 8]⟩
abbrev S100000x64 : Shape := ⟨2, ![100000, 64]⟩
abbrev S2048x64 : Shape := ⟨2, ![2048, 64]⟩
abbrev S64x100000 : Shape := ⟨2, ![64, 100000]⟩
abbrev S100000 : Shape := ⟨1, ![100000]⟩
abbrev S256 : Shape := ⟨1, ![256]⟩
abbrev S_ : Shape := ⟨0, ![]⟩
abbrev S256x8x64 : Shape := ⟨3, ![256, 8, 64]⟩
abbrev S128 : Shape := ⟨1, ![128]⟩
abbrev S1 : Shape := ⟨1, ![1]⟩
abbrev S1x8x64 : Shape := ⟨3, ![1, 8, 64]⟩
abbrev S8x64 : Shape := ⟨2, ![8, 64]⟩
abbrev S128x8x64 : Shape := ⟨3, ![128, 8, 64]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S1x8x1x64 : Shape := ⟨4, ![1, 8, 1, 64]⟩
abbrev S32x8x1x64 : Shape := ⟨4, ![32, 8, 1, 64]⟩
abbrev S256x64 : Shape := ⟨2, ![256, 64]⟩
abbrev S1x100000 : Shape := ⟨2, ![1, 100000]⟩
abbrev S256x100000 : Shape := ⟨2, ![256, 100000]⟩
abbrev S64x16384 : Shape := ⟨2, ![64, 16384]⟩
abbrev S1x16384 : Shape := ⟨2, ![1, 16384]⟩
abbrev S256x16384 : Shape := ⟨2, ![256, 16384]⟩
abbrev S32x8x100000 : Shape := ⟨3, ![32, 8, 100000]⟩

abbrev nBuf : Table → Nat
  | .hbm => 28
  | .local .tc .vmem => 10
  | .local .scScalar .smem => 1
  | _ => 0

abbrev bufTy : (tb : Table) → Fin (nBuf tb) → BufTy
  | .hbm, ⟨0, _⟩ => ⟨S32x8, .i32⟩
  | .hbm, ⟨1, _⟩ => ⟨S100000x64, .f32⟩
  | .hbm, ⟨2, _⟩ => ⟨S2048x64, .f32⟩
  | .hbm, ⟨3, _⟩ => ⟨S64x100000, .f32⟩
  | .hbm, ⟨4, _⟩ => ⟨S100000, .f32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256x8x64, .f32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i32⟩
  | .hbm, ⟨14, _⟩ => ⟨S8, .i32⟩
  | .hbm, ⟨15, _⟩ => ⟨S1x8, .i32⟩
  | .hbm, ⟨16, _⟩ => ⟨S256x8, .i32⟩
  | .hbm, ⟨17, _⟩ => ⟨S256x8, .i32⟩
  | .hbm, ⟨18, _⟩ => ⟨S256x8, .i1⟩
  | .hbm, ⟨19, _⟩ => ⟨S256x8, .f32⟩
  | .hbm, ⟨20, _⟩ => ⟨S256x8x1, .f32⟩
  | .hbm, ⟨21, _⟩ => ⟨S8x64, .f32⟩
  | .hbm, ⟨22, _⟩ => ⟨S1x8x1x64, .f32⟩
  | .hbm, ⟨23, _⟩ => ⟨S32x8x1x64, .f32⟩
  | .hbm, ⟨24, _⟩ => ⟨S256x64, .f32⟩
  | .hbm, ⟨25, _⟩ => ⟨S1x100000, .f32⟩
  | .hbm, ⟨26, _⟩ => ⟨S256x100000, .f32⟩
  | .hbm, ⟨27, _⟩ => ⟨S32x8x100000, .f32⟩
  | .local .tc .vmem, ⟨0, _⟩ => ⟨S256x8x64, .f32⟩
  | .local .tc .vmem, ⟨1, _⟩ => ⟨S256x8x1, .f32⟩
  | .local .tc .vmem, ⟨2, _⟩ => ⟨S256x64, .f32⟩
  | .local .tc .vmem, ⟨3, _⟩ => ⟨S64x16384, .f32⟩
  | .local .tc .vmem, ⟨4, _⟩ => ⟨S64x16384, .f32⟩
  | .local .tc .vmem, ⟨5, _⟩ => ⟨S1x16384, .f32⟩
  | .local .tc .vmem, ⟨6, _⟩ => ⟨S1x16384, .f32⟩
  | .local .tc .vmem, ⟨7, _⟩ => ⟨S256x16384, .f32⟩
  | .local .tc .vmem, ⟨8, _⟩ => ⟨S256x16384, .f32⟩
  | .local .tc .vmem, ⟨9, _⟩ => ⟨S256x64, .f32⟩
  | .local .scScalar .smem, ⟨0, _⟩ => ⟨S128, .i32⟩
  | _, _ => ⟨S32x8, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v2_scs : Ref sig .scScalar := ⟨.hbm, 8, rfl⟩
abbrev main_arg1_scs : Ref sig .scScalar := ⟨.hbm, 1, rfl⟩
abbrev main_v3_scs : Ref sig .scScalar := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc0_scratch0 : Ref sig .scScalar := ⟨.smem, 0, rfl⟩
abbrev cc1_sem0_0 : DmaSem sig := 2
abbrev cc1_sem1_0 : DmaSem sig := 3
abbrev cc1_sem2_0 : DmaSem sig := 4
abbrev cc1_sem3_0 : DmaSem sig := 5
abbrev cc1_sem3_1 : DmaSem sig := 6
abbrev cc1_sem4_0 : DmaSem sig := 7
abbrev cc1_sem4_1 : DmaSem sig := 8
abbrev cc1_sem5_0 : DmaSem sig := 9
abbrev cc1_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let c128_i32 : BitVec 32 := 128#32
  let v0 : BitVec 32 := Scalar.muli arg0 c128_i32
  ![v0.toNat]
@[reducible] def k0_t1_loop : Scf.Loop 32 :=
  let c0_i32_0 : BitVec 32 := 0#32
  let c128_i32_1 : BitVec 32 := 128#32
  let v1 : BitVec 32 := Scalar.addi c0_i32_0 c128_i32_1
  let c1_i32 : BitVec 32 := 1#32
  ⟨c0_i32_0, v1, c1_i32⟩
def k0_off2 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let v4 : Index := Scalar.indexCast arg6
  ![v4.toNat]
def k0_mult1 (v5 : BitVec 32) : BitVec 32 :=
  let c8_i32 : BitVec 32 := 8#32
  let v6 : BitVec 32 := Scalar.muli v5 c8_i32
  v6

def k0_off3 (i : grid0.Coords) (k0_t1 : Fin k0_t1_loop.trips) : Fin 3 → Nat :=
  let arg0 : BitVec 32 := BitVec.ofNat 32 (i 0).val
  let c128_i32 : BitVec 32 := 128#32
  let v0 : BitVec 32 := Scalar.muli arg0 c128_i32
  let c0_i32_0 : BitVec 32 := 0#32
  let c1_i32 : BitVec 32 := 1#32
  let arg6 : BitVec 32 := Scf.iv c0_i32_0 c1_i32 k0_t1
  let v8 : BitVec 32 := Scalar.addi v0 arg6
  let c0_i32_7 : BitVec 32 := 0#32
  let c0_i32_8 : BitVec 32 := 0#32
  ![v8.toNat, 0, 0]
def k0_off4 (v5 : BitVec 32) : Fin 2 → Nat :=
  let c8_i32 : BitVec 32 := 8#32
  let v6 : BitVec 32 := Scalar.muli v5 c8_i32
  let v7 : BitVec 32 := v6
  let c0_i32_9 : BitVec 32 := 0#32
  ![v7.toNat, 0]

def k0_chk1 (v5 : BitVec 32) : Prop :=
  (8 ∣ (k0_mult1 v5).toNat) ∧
  (∀ a, (k0_off4 v5) a + S8x64.size a ≤ S100000x64.size a)
theorem k0_mult1_dvd : ∀ (v5 : BitVec 32) (k0_hw1 : k0_chk1 v5), 8 ∣ (k0_mult1 v5).toNat := fun v5 k0_hw1 => k0_hw1.1
theorem k0_off4_inb : ∀ (v5 : BitVec 32) (k0_hw1 : k0_chk1 v5), ∀ a, (k0_off4 v5) a + S8x64.size a ≤ S100000x64.size a := fun v5 k0_hw1 => k0_hw1.2

def k0_off5 (i : grid0.Coords) : Fin 3 → Nat :=
  let arg0 : BitVec 32 := BitVec.ofNat 32 (i 0).val
  let c128_i32 : BitVec 32 := 128#32
  let v0 : BitVec 32 := Scalar.muli arg0 c128_i32
  let c0_i32_3 : BitVec 32 := 0#32
  let c0_i32_4 : BitVec 32 := 0#32
  ![v0.toNat, 0, 0]
abbrev grid1 : Pipeline.Grid := ⟨1, ![7], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x8x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x8x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x16384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S32x8 : Shape := ⟨2, ![32, 8]⟩
abbrev S100000x64 : Shape := ⟨2, ![100000, 64]⟩
abbrev S2048x64 : Shape := ⟨2, ![2048, 64]⟩
abbrev S64x100000 : Shape := ⟨2, ![64, 100000]⟩
abbrev S100000 : Shape := ⟨1, ![100000]⟩
abbrev S_ : Shape := ⟨0, ![]⟩
abbrev S32x8x1 : Shape := ⟨3, ![32, 8, 1]⟩
abbrev S1 : Shape := ⟨1, ![1]⟩
abbrev S1x1x1 : Shape := ⟨3, ![1, 1, 1]⟩
abbrev S32x8x64 : Shape := ⟨3, ![32, 8, 64]⟩
abbrev S8 : Shape := ⟨1, ![8]⟩
abbrev S8x1 : Shape := ⟨2, ![8, 1]⟩
abbrev S1x1 : Shape := ⟨2, ![1, 1]⟩
abbrev S8x64 : Shape := ⟨2, ![8, 64]⟩
abbrev S1x8x64 : Shape := ⟨3, ![1, 8, 64]⟩
abbrev S32x8x100000 : Shape := ⟨3, ![32, 8, 100000]⟩
abbrev S1x1x100000 : Shape := ⟨3, ![1, 1, 100000]⟩

abbrev nBuf : Space → Nat
  | .hbm => 81
  | .vmem => 0
  | .smem => 0
  | _ => 0

abbrev bufTy : (tb : Table) → Fin (tcTables nBuf tb) → BufTy
  | .hbm, ⟨0, _⟩ => ⟨S32x8, .i32⟩
  | .hbm, ⟨1, _⟩ => ⟨S100000x64, .f32⟩
  | .hbm, ⟨2, _⟩ => ⟨S2048x64, .f32⟩
  | .hbm, ⟨3, _⟩ => ⟨S64x100000, .f32⟩
  | .hbm, ⟨4, _⟩ => ⟨S100000, .f32⟩
  | .hbm, ⟨5, _⟩ => ⟨S_, .i32⟩
  | .hbm, ⟨6, _⟩ => ⟨S32x8, .i32⟩
  | .hbm, ⟨7, _⟩ => ⟨S32x8, .i1⟩
  | .hbm, ⟨8, _⟩ => ⟨S_, .i32⟩
  | .hbm, ⟨9, _⟩ => ⟨S32x8, .i32⟩
  | .hbm, ⟨10, _⟩ => ⟨S32x8, .i32⟩
  | .hbm, ⟨11, _⟩ => ⟨S32x8, .i32⟩
  | .hbm, ⟨12, _⟩ => ⟨S32x8x1, .i32⟩
  | .hbm, ⟨13, _⟩ => ⟨S1, .i32⟩
  | .hbm, ⟨14, _⟩ => ⟨S_, .i32⟩
  | .hbm, ⟨15, _⟩ => ⟨S32x8x1, .i32⟩
  | .hbm, ⟨16, _⟩ => ⟨S32x8x1, .i1⟩
  | .hbm, ⟨17, _⟩ => ⟨S1x1x1, .i32⟩
  | .hbm, ⟨18, _⟩ => ⟨S32x8x1, .i32⟩
  | .hbm, ⟨19, _⟩ => ⟨S32x8x1, .i1⟩
  | .hbm, ⟨20, _⟩ => ⟨S32x8x1, .i1⟩
  | .hbm, ⟨21, _⟩ => ⟨S_, .i1⟩
  | .hbm, ⟨22, _⟩ => ⟨S32x8, .i1⟩
  | .hbm, ⟨23, _⟩ => ⟨S32x8x64, .f32⟩
  | .hbm, ⟨24, _⟩ => ⟨S32x8x64, .i1⟩
  | .hbm, ⟨25, _⟩ => ⟨S_, .f32⟩
  | .hbm, ⟨26, _⟩ => ⟨S32x8x64, .f32⟩
  | .hbm, ⟨27, _⟩ => ⟨S32x8x64, .f32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S_, .i32⟩
  | .hbm, ⟨44, _⟩ => ⟨S_, .i1⟩
  | .hbm, ⟨45, _⟩ => ⟨S8, .i1⟩
  | .hbm, ⟨46, _⟩ => ⟨S8, .i1⟩
  | .hbm, ⟨47, _⟩ => ⟨S8, .i1⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i1⟩
  | .hbm, ⟨54, _⟩ => ⟨S_, .i32⟩
  | .hbm, ⟨55, _⟩ => ⟨S8, .i32⟩
  | .hbm, ⟨56, _⟩ => ⟨S8, .i32⟩
  | .hbm, ⟨57, _⟩ => ⟨S8, .i32⟩
  | .hbm, ⟨58, _⟩ => ⟨S8x1, .i32⟩
  | .hbm, ⟨59, _⟩ => ⟨S1, .i32⟩
  | .hbm, ⟨60, _⟩ => ⟨S_, .i32⟩
  | .hbm, ⟨61, _⟩ => ⟨S8x1, .i32⟩
  | .hbm, ⟨62, _⟩ => ⟨S8x1, .i1⟩
  | .hbm, ⟨63, _⟩ => ⟨S1x1, .i32⟩
  | .hbm, ⟨64, _⟩ => ⟨S8x1, .i32⟩
  | .hbm, ⟨65, _⟩ => ⟨S8x1, .i1⟩
  | .hbm, ⟨66, _⟩ => ⟨S8x1, .i1⟩
  | .hbm, ⟨67, _⟩ => ⟨S_, .i1⟩
  | .hbm, ⟨68, _⟩ => ⟨S8, .i1⟩
  | .hbm, ⟨69, _⟩ => ⟨S8x64, .f32⟩
  | .hbm, ⟨70, _⟩ => ⟨S8x64, .i1⟩
  | .hbm, ⟨71, _⟩ => ⟨S_, .f32⟩
  | .hbm, ⟨72, _⟩ => ⟨S8x64, .f32⟩
  | .hbm, ⟨73, _⟩ => ⟨S8x64, .f32⟩
  | .hbm, ⟨74, _⟩ => ⟨S1x8x64, .f32⟩
  | .hbm, ⟨75, _⟩ => ⟨S32x8x64, .f32⟩
  | .hbm, ⟨76, _⟩ => ⟨S32x8x64, .f32⟩
  | .hbm, ⟨77, _⟩ => ⟨S32x8x100000, .f32⟩
  | .hbm, ⟨78, _⟩ => ⟨S1x1x100000, .f32⟩
  | .hbm, ⟨79, _⟩ => ⟨S32x8x100000, .f32⟩
  | .hbm, ⟨80, _⟩ => ⟨S32x8x100000, .f32⟩
  | _, _ => ⟨S32x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_c : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v2 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩

abbrev nD : Nat := 1
abbrev τ : Topo := Topo.v7x

variable {F : FTy → Type} [FloatOps F]
-- ==== Proof.Setup.lean ====
/-
  The program as the SparseCore launch theorem sees it, and the ghost state of the whole proof: the launch handshakes'
  rounds, the TensorCore pipeline's rounds and the transfers' counters, side by side. Everything here is over an
  arbitrary family `F` of float values, so that it serves floats as bits and the ideal reals alike.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Ring
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels under the SparseCore launch: the pipelines' and the kernels' own. -/
abbrev ΛP : Labels := Pipeline.Sig Λ₀ (Fin 1) fun p => (pcfgs (F := F) p).Adm
/-- The program's SparseCore configuration. -/
abbrev K : SparseCore.Cfg τ sig (ΛP (F := F)) 1 := sc (F := F)
/-- The definitions under the launch: the pipeline's over the kernels' bodies. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four handshake semaphores are apart and unscoped, and no buffer is shared with tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost component, -/
abbrev UH : Type := URounds (GSem nD τ sig) ℕ
/-- the pipeline's, -/
abbrev UP : Type := UR sig nD τ
/-- and the three components side by side: handshakes, pipeline, transfers' counters. -/
abbrev UU : Type := UH × (UP × Counters)

local notation "𝕄" => MT nD τ sig (HIx 1) (Elt F) ℕ UU ℕ

/-- The handshakes' component embedded in the program's algebra, -/
abbrev EH : Emb UH (MT nD τ sig (HIx 1) (Elt F) ℕ UU ℕ) := embL
/-- and the pipeline's. -/
def EP : Emb UP (MT nD τ sig (HIx 1) (Elt F) ℕ UU ℕ) := (Emb.inl : Emb UP (UP × Counters)).trans embR

instance EP_landsIn : (EP : Emb UP 𝕄).LandsIn (upEmb : UEmb _ 𝕄) := by
  unfold EP embR; infer_instance

/-- The launch's ghost element splits into its three components. -/
theorem ownU_triple (a : UH) (b : UP) (c : Counters) :
    (ownU (a, (b, c)) : sProp 𝕄) ⊢ iprop(BI.own (EH a) ∗ BI.own (EP b)) := by
  iintro H
  ihave H' := (ownU_pair _ _) $$ H
  icases H' with ⟨HA, HB⟩
  ihave HB' := (own_pair_emb _ _ _) $$ HB
  icases HB' with ⟨HB, -⟩
  isplitl [HA]; · iexact HA
  iexact HB

/-! ## The arrays of the SparseCore call -/

/-- The shifted tokens' words (one `i32` per token). -/
abbrev iLoc (d : Dev nD) : Loc nD τ sig := (SparseCore.T d).loc main_v2
/-- The token table. -/
abbrev tLoc (d : Dev nD) : Loc nD τ sig := (SparseCore.T d).loc main_arg1
/-- The gathered blocks: per token, eight rows of the table. -/
abbrev oLoc (d : Dev nD) : Loc nD τ sig := (SparseCore.T d).loc main_v3

end Cert.Proof

end
-- ==== Proof.Gather.lean ====
/-
  The SparseCore kernel's body, at a symbolic sequencer. Sequencer `c` of the two copies its 128 words of the shifted
  tokens into its scalar memory, then issues 128 copies on one semaphore — eight rows of the token table each, the
  rows named by the word — into its half of the gathered array, and waits once for all of them. The statement carries
  the values: what it hands back is its half of the array at `gath`, the gathered blocks as a function of the words and
  of the table.
-/
module

public import proofs.«01_k».proof.Proof.Setup
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

-- the kernel's memrefs, spelt as the body table passes them
local notation "iW" => (Memref.whole Cert.KernelIdeal.main_v2_scs : Memref Cert.KernelIdeal.sig Kind.scScalar Space.hbm Cert.KernelIdeal.S256 EltTy.i32)
local notation "tW" => (Memref.whole Cert.KernelIdeal.main_arg1_scs : Memref Cert.KernelIdeal.sig Kind.scScalar Space.hbm Cert.KernelIdeal.S100000x64 EltTy.f32)
local notation "oW" => (Memref.whole Cert.KernelIdeal.main_v3_scs : Memref Cert.KernelIdeal.sig Kind.scScalar Space.hbm Cert.KernelIdeal.S256x8x64 EltTy.f32)
local notation "sW" => (Memref.whole Cert.KernelIdeal.cc0_scratch0 : Memref Cert.KernelIdeal.sig Kind.scScalar Space.smem Cert.KernelIdeal.S128 EltTy.i32)

/-! ## What is gathered -/

/-- The table's row that the `r`-th row of a token's block comes from, by the token's word: eight times the word, plus
    `r` (the remainder only makes the number a row whatever the word is: of the words in range it changes nothing). -/
def rowOf (w : BitVec 32) (r : ℕ) : Fin 100000 := ⟨(k0_off4 w 0 + r) % 100000, Nat.mod_lt _ (by decide)⟩

/-- The gathered blocks: entry `(n, r, j)` is entry `j` of row `8 · word n + r` of the table. -/
def gath (tix : S256.Idx → Elt F .i32) (tab : S100000x64.Idx → Elt F .f32) : S256x8x64.Idx → Elt F .f32 :=
  fun y => tab (ix2 (rowOf (tix (ix1 (y 0))) (y 1).val) (y 2))

/-! ## The array by rows -/

theorem row_inb (r : Fin 256) : ∀ a, (![r.val, 0, 0] : Fin 3 → Nat) a + S1x8x64.size a ≤ S256x8x64.size a := by
  have := r.isLt; intro a; fin_cases a
  · show r.val + 1 ≤ 256; omega
  · show 0 + 8 ≤ 8; omega
  · show 0 + 64 ≤ 64; omega

/-- The elements of token `r`'s block. -/
abbrev rowSet (r : Fin 256) : Finset S256x8x64.Idx := (Rect.unit (s := S256x8x64) ![r.val, 0, 0] S1x8x64.size (row_inb r)).set

theorem mem_rowSet (r : Fin 256) (y : S256x8x64.Idx) : y ∈ rowSet r ↔ (y 0).val = r.val := by
  rw [Rect.mem_set_unit]
  have h1 : (y 1).val < 8 := (y 1).isLt
  have h2 : (y 2).val < 64 := (y 2).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 8; omega
    · show 0 ≤ (y 2).val ∧ (y 2).val < 0 + 64; omega
theorem rowSet_disjoint : ∀ r r' : Fin 256, r ≠ r' → Disjoint (rowSet r) (rowSet r') := fun r r' hne => by
  rw [Finset.disjoint_left]; intro y hy hy'; rw [mem_rowSet] at hy hy'; exact hne (Fin.ext (by omega))
theorem rowSet_cover : Finset.univ.biUnion rowSet = Finset.univ := by
  ext y; simp only [Finset.mem_biUnion, Finset.mem_univ, true_and, iff_true]; exact ⟨y 0, (mem_rowSet _ _).mpr rfl⟩

section Body

variable (d : Dev nD)

/-- Token `r`'s block, held at the contents `f` has there. -/
abbrev rowPts (f : Buf (Elt F) (oLoc d)) (r : Fin 256) : sProp 𝕄 := oLoc d ↦[rowSet r]{fullShare} f

/-- The blocks numbered `[a, b)`, at the contents of `f`. -/
abbrev rows (f : Buf (Elt F) (oLoc d)) (a b : ℕ) : sProp 𝕄 := bigSep (Ring.rangeSet 256 a b) (rowPts (F := F) d f)

/-- The array whole is the two sequencers' halves. -/
theorem rows_halves (f : Buf (Elt F) (oLoc d)) :
    (oLoc d ↦{fullShare} f : sProp 𝕄) = iprop(rows d f 0 128 ∗ rows d f 128 256) := by
  rw [Ring.pointsTo_blocks (ℓ := oLoc d) rowSet rowSet_disjoint rowSet_cover f, ← Ring.rangeSet_univ,
    Ring.bigSep_rangeSet_split (b := 128) (by decide) (by decide)]

variable (tix : Buf (Elt F) (iLoc d)) (tab : Buf (Elt F) (tLoc d)) (f₀ : Buf (Elt F) (oLoc d))

/-- What the call hands sequencer `c`: read shares of the words and of the table, its half of the array at the
    contents it had. -/
def toCore (c : ℕ) : sProp 𝕄 :=
  iprop((iLoc d ↦{Transfers.shareTokN fullShare c} tix) ∗ (tLoc d ↦{Transfers.shareTokN fullShare c} tab) ∗ rows d f₀ (128 * c) (128 * c + 128))
/-- What it hands back: its half of the array, gathered. -/
def ofCore (c : ℕ) : sProp 𝕄 := rows d (gath tix tab) (128 * c) (128 * c + 128)

instance toCore_storable (c : ℕ) : BI.Storable (upEmb : UEmb _ 𝕄) (toCore d tix tab f₀ c) := by
  unfold toCore rows; infer_instance
instance ofCore_storable (c : ℕ) : BI.Storable (upEmb : UEmb _ 𝕄) (ofCore d tix tab c) := by
  unfold ofCore rows; infer_instance

/-- A sequencer's coordinates in the kernel's grid. -/
def coordsS (c : Fin (grid0.bound 0)) : grid0.Coords := fun | 0 => c | ⟨_ + 1, h⟩ => absurd h (Nat.not_lt.2 (Nat.le_add_left _ _))

/-- The sequencer's thread. -/
abbrev Sq (c : Fin (grid0.bound 0)) : Thread nD τ := S d ((coordsS c 0).castLE hcore0)

/-- Its scratch words' location. -/
abbrev sLoc (c : Fin (grid0.bound 0)) : Loc nD τ sig := (Sq d c).loc cc0_scratch0

/-- The two semaphores it uses: the gather's, and the words' copy's. -/
abbrev gCell (c : Fin τ.nSC) : GSem nD τ sig := (S d c, .dma cc0_scratch1.sem)
abbrev wCell (c : Fin τ.nSC) : GSem nD τ sig := (S d c, .dma cc0_scoped0.sem)

theorem ownSems0_S (c : Fin τ.nSC) :
    (ownSems0 (S d c) : sProp 𝕄) = iprop(semVal (gCell d c) 0 ∗ semVal (wCell d c) 0 ∗ bigSep (((ownCells (S d c)).erase (gCell d c)).erase (wCell d c)) fun g => semVal g 0) := by
  unfold SparseCore.Cfg.ownSems0
  rw [SparseCore.bigSep_erase' ((mem_ownCells (g := gCell d c)).mpr ⟨rfl, by show (SemLoc.dma cc0_scratch1.sem : SemLoc sig).isScoped .scScalar = true; decide⟩),
    SparseCore.bigSep_erase' (Finset.mem_erase.mpr ⟨fun h => absurd (congrArg Prod.snd h) (show ¬ (SemLoc.dma cc0_scoped0.sem : SemLoc sig) = SemLoc.dma cc0_scratch1.sem by decide),
      (mem_ownCells (g := wCell d c)).mpr ⟨rfl, by show (SemLoc.dma cc0_scoped0.sem : SemLoc sig).isScoped .scScalar = true; decide⟩⟩)]

theorem ownBufs_S (c : Fin τ.nSC) :
    (ownBufs (S d c) : sProp 𝕄)
      = iprop((∃ f, ((S d c).loc cc0_scratch0) ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

theorem pts_s (c : Fin τ.nSC) (f : Buf (Elt F) ((S d c).loc cc0_scratch0)) :
    ((sW).view.loc (S d c) ↦{fullShare} f : sProp 𝕄) = ((S d c).loc cc0_scratch0) ↦{fullShare} f := by
  simp only [Memref.view_whole, View.set_whole]

theorem word_inb (c : Fin (grid0.bound 0)) : ∀ a, k0_off1 (coordsS c) a + S128.size a ≤ S256.size a := k0_off1_inb (coordsS c)

/-- The words a sequencer reads into its scalar memory: its 128 of the 256. -/
def words (c : Fin (grid0.bound 0)) : Buf (Elt F) (sLoc d c) :=
  fun y : S128.Idx => tix (ix1 (⟨128 * c.val + (y 0).val, by have : c.val < 2 := c.isLt; have : (y 0).val < 128 := (y 0).isLt; omega⟩ : Fin 256))

/-- The units one copy's completion credits. -/
def NN : ℕ := 16384

/-- What copy `t` of sequencer `c` delivers: token `128 c + t`'s block, gathered. -/
abbrev deliv (c : Fin (grid0.bound 0)) (t : Fin 128) : sProp 𝕄 :=
  rowPts d (gath tix tab) ⟨128 * c.val + t.val, by have : c.val < 2 := c.isLt; have := t.isLt; omega⟩

variable [FloatOps F]

/-- Before trip `k`: `k` copies issued, none waited for; the table under what `k` read tokens leave of the share; the
    blocks from the `k`-th on still at their old contents; the words in scalar memory. -/
def gInv (c : Fin (grid0.bound 0)) (k : ℕ) (_ : Unit) : sProp 𝕄 :=
  iprop(Transfers.Batch (countersEmb (U := UU)) (Sq d c) (.dma cc0_scratch1.sem) (none : HIx 1) NN (deliv d tix tab c) k 0
    ∗ (tLoc d ↦{Transfers.shareDrop (Transfers.shareTokN fullShare c.val) k} tab)
    ∗ rows d f₀ (128 * c.val + k) (128 * c.val + 128)
    ∗ ((sW).view.loc (Sq d c) ↦{fullShare} words d tix c))

theorem trips_eq : k0_t1_loop.trips = 128 := by decide

theorem tok_inb (w : BitVec 32) (hw : k0_chk1 w) : ∀ a, k0_off4 w a + S8x64.size a ≤ S100000x64.size a := k0_off4_inb w hw

/-- Eight rows of the table, those that the word `w` names: a copy's source. -/
def srcM (w : BitVec 32) (hw : k0_chk1 w) : Memref sig .scScalar .hbm S8x64 .f32 :=
  (tW).slice (Rect.unit (s := S100000x64) (k0_off4 w) S8x64.size (k0_off4_inb w hw)) (fun _ => rfl)
/-- A token's block: copy `k`'s destination. -/
def dstM (c : Fin (grid0.bound 0)) (k : Fin k0_t1_loop.trips) : Memref sig .scScalar .hbm S8x64 .f32 :=
  ((oW).slice (Rect.unit (s := S256x8x64) (k0_off3 (coordsS c) k) S1x8x64.size (k0_off3_inb (coordsS c) k)) (fun _ => rfl)).squeeze S8x64 squeezes_S1x8x64_S8x64

/-- The number of the block that trip `k` of sequencer `c` fills. -/
def rowNo (c : Fin (grid0.bound 0)) (k : Fin k0_t1_loop.trips) : Fin 256 :=
  ⟨128 * c.val + k.val, by have : c.val < 2 := c.isLt; have := k.isLt; have := trips_eq; omega⟩

theorem dst_emb (c : Fin (grid0.bound 0)) (k : Fin k0_t1_loop.trips) (x : Fin 8) (y : Fin 64) :
    (dstM c k).view.emb (ix2 x y) = ix3 (rowNo c k) x y := by
  have h1 : (dstM c k).view.emb (ix2 x y)
      = (Rect.unit (s := S256x8x64) (k0_off3 (coordsS c) k) S1x8x64.size (k0_off3_inb (coordsS c) k)).emb
          (Shape.reshapeEquiv squeezes_S1x8x64_S8x64.numel_eq (ix2 x y)) := rfl
  rw [h1, ValueIdx.reshapeEquiv_ix2_1ab]
  funext a; apply Fin.ext; rw [Rect.emb_apply]
  have e := k0_off3_eq (coordsS c) k
  match a with
  | ⟨0, _⟩ => show k0_off3 (coordsS c) k 0 + 1 * 0 = 128 * c.val + k.val; rw [e]; rfl
  | ⟨1, _⟩ => show k0_off3 (coordsS c) k 1 + 1 * x.val = x.val; rw [e]; show 0 + 1 * x.val = x.val; omega
  | ⟨2, _⟩ => show k0_off3 (coordsS c) k 2 + 1 * y.val = y.val; rw [e]; show 0 + 1 * y.val = y.val; omega

theorem dst_set (c : Fin (grid0.bound 0)) (k : Fin k0_t1_loop.trips) : (dstM c k).view.set = rowSet (rowNo c k) := by
  have h1 : (dstM c k).view.set = (Rect.unit (s := S256x8x64) (k0_off3 (coordsS c) k) S1x8x64.size (k0_off3_inb (coordsS c) k)).set := by
    unfold dstM; exact (View.set_reshape _ _).trans (View.set_slice_whole _ _)
  rw [h1]
  have e : k0_off3 (coordsS c) k = ![(rowNo c k).val, 0, 0] := k0_off3_eq (coordsS c) k
  ext y; rw [Rect.mem_set_unit, Rect.mem_set_unit, e]

theorem src_read (w : BitVec 32) (hw : k0_chk1 w) (x : Fin 8) (y : Fin 64) :
    (srcM w hw).view.read (Elt F) tab (ix2 x y) = tab (ix2 (rowOf w x.val) y) := by
  show tab ((Rect.unit (s := S100000x64) (k0_off4 w) S8x64.size (k0_off4_inb w hw)).emb (ix2 x y)) = _
  congr 1
  funext a; apply Fin.ext; rw [Rect.emb_apply]
  match a with
  | ⟨0, _⟩ =>
    show k0_off4 w 0 + 1 * x.val = (k0_off4 w 0 + x.val) % 100000
    have h : k0_off4 w 0 + 8 ≤ 100000 := tok_inb w hw 0
    have := x.isLt
    rw [Nat.mod_eq_of_lt (by omega)]; omega
  | ⟨1, _⟩ => show 0 + 1 * y.val = y.val; omega

/-- What copy `k` writes over its destination is the gathered block. -/
theorem copy_val (c : Fin (grid0.bound 0)) (k : Fin k0_t1_loop.trips) (w : BitVec 32) (hw : k0_chk1 w) (hwk : w = tix (ix1 (rowNo c k)))
    (f : Buf (Elt F) (oLoc d)) (y : S256x8x64.Idx) (hy : y ∈ rowSet (rowNo c k)) :
    (dstM c k).view.write (Elt F) f ((srcM w hw).view.read (Elt F) tab) Finset.univ y = gath tix tab y := by
  rw [← dst_set] at hy
  obtain ⟨x, -, rfl⟩ := Finset.mem_map.mp hy
  obtain ⟨a, b, rfl⟩ : ∃ a b, x = ix2 a b := ⟨x 0, x 1, by funext i; match i with | ⟨0, _⟩ => rfl | ⟨1, _⟩ => rfl⟩
  refine (View.write_emb_of_mem (v := (dstM c k).view) (Val := Elt F) f _ (Finset.mem_univ _)).trans ?_
  refine (src_read d tab w hw a b).trans ?_
  refine Eq.trans ?_ (congrArg (gath tix tab) (dst_emb c k a b).symm)
  rw [hwk]; rfl

theorem word_read (c : Fin (grid0.bound 0)) (k : Fin k0_t1_loop.trips) :
    words d tix c (ix1 (⟨k.val, by have := k.isLt; have := trips_eq; omega⟩ : Fin 128)) = tix (ix1 (rowNo c k)) := rfl

theorem dst_amount (c : Fin (grid0.bound 0)) (k : Fin k0_t1_loop.trips) :
    (dstM c k).view.amount (.dma cc0_scratch1.sem) = NN := by
  show S8x64.numel * (EltTy.f32).bits = NN
  decide

/-- A share of the table holds, under itself, the rows that a copy reads. -/
theorem tok_part (c : Fin (grid0.bound 0)) (w : BitVec 32) (hw : k0_chk1 w) (q : PosShare TreeShare) :
    (tLoc d ↦{q} tab : sProp 𝕄) ⊢ ((srcM w hw).view.loc (Sq d c) ↦[(srcM w hw).view.set]{q} tab) := by
  have h : (tLoc d ↦{q} tab : sProp 𝕄) ⊢ _ := (pointsTo_split_subset (ℓ := tLoc d) (q := q) (f := tab) (S := Finset.univ) (I := (srcM w hw).view.set) (Finset.subset_univ _)).1
  iintro H
  ihave H' := h $$ H
  icases H' with ⟨H, -⟩
  iexact H

/-- What a copy lands, with the share it read under, is its delivery. -/
theorem deliver (c : Fin (grid0.bound 0)) (k : Fin k0_t1_loop.trips) (hk : k.val < 128) (w : BitVec 32) (hw : k0_chk1 w) (hwk : w = tix (ix1 (rowNo c k)))
    (q : PosShare TreeShare) :
    iprop(((dstM c k).view.loc (Sq d c) ↦[rowSet (rowNo c k)]{fullShare} ((dstM c k).view.write (Elt F) f₀ (ReadAs.same.apply ((srcM w hw).view.read (Elt F) tab)) Finset.univ))
      ∗ ((srcM w hw).view.loc (Sq d c) ↦[(srcM w hw).view.set]{q} tab))
      ⊢ (deliv d tix tab c ⟨k.val, hk⟩ : sProp 𝕄) := by
  iintro ⟨H, -⟩
  iapply (Entails.of_eq (pointsTo_congr fun y hy => copy_val d tix tab c k w hw hwk f₀ y hy))
  iexact H

/-- One copy issued. -/
theorem issue [∀ e, Nonempty (Elt F e)] (c : Fin (grid0.bound 0)) (k : Fin k0_t1_loop.trips) (hk : k.val < 128) (w : BitVec 32) (hw : k0_chk1 w) (hwk : w = tix (ix1 (rowNo c k)))
    (q : PosShare TreeShare) {hs hd ht} {α : Type} (kk : PUnit → Prog (TpuEff nD τ sig (Elt F) Λ₀ (Sq d c).2) α) (Q : α → sProp 𝕄) :
    iprop((tLoc d ↦{q} tab) ∗ rowPts d f₀ (rowNo c k) ∗ Transfers.Batch (countersEmb (U := UU)) (Sq d c) (.dma cc0_scratch1.sem) (none : HIx 1) NN (deliv d tix tab c) k.val 0)
      ⊢ iprop((Transfers.Batch (countersEmb (U := UU)) (Sq d c) (.dma cc0_scratch1.sem) (none : HIx 1) NN (deliv d tix tab c) (k.val + 1) 0
            -∗ wp frame (wpE (defs₀ (F := F)) 𝒱₀ (Sq d c) none) Set.univ (kk ⟨⟩) Q)
          -∗ wp frame (wpE (defs₀ (F := F)) 𝒱₀ (Sq d c) none) Set.univ (.op (.enqueueDma (srcM w hw) (.here (dstM c k)) (.dma cc0_scratch1.sem) hs hd ht) kk) Q) := by
  have hR := Transfers.wp_dmaBatch (countersEmb (U := UU)) (defs := defs₀ (F := F)) 𝒱₀ (Sq d c) none (none : HIx 1) NN (q := q) (Q := Q) (k := kk) (via := ReadAs.same)
    (src := srcM w hw) (dst := dstM c k) (hsrc := hs) (hdst := hd) (hsem := ht) (Sd := rowSet (rowNo c k)) (fs := tab) (fd := f₀) (D := deliv d tix tab c) (j := k.val) (u := 0)
    (dst_amount c k) (dst_set c k).subset hk (Nat.zero_le _) (deliver d tix tab f₀ c k hk w hw hwk q)
  refine BIBase.Entails.trans ?_ hR
  iintro ⟨Ht, Hr, HB⟩
  isplitl [Ht]; · iapply (tok_part d tab c w hw q); iexact Ht
  isplitl [Hr]; · iexact Hr
  iexact HB

/-- The copies' deliveries, all of them, are the sequencer's half of the array, gathered. -/
theorem delivered (c : Fin (grid0.bound 0)) : (bigSep Finset.univ (deliv d tix tab c) : sProp 𝕄) = ofCore d tix tab c.val := by
  have hc : c.val < 2 := c.isLt
  unfold ofCore rows
  rw [Ring.bigSep_fin_eq_range 128 (deliv d tix tab c)
      (fun t => if h : 128 * c.val + t < 256 then rowPts d (gath tix tab) ⟨128 * c.val + t, h⟩ else iprop(emp)) (fun t h => dif_pos (by omega)),
    Ring.bigSep_rangeSet_eq_range (lo := 128 * c.val) (hi := 128 * c.val + 128) (by omega)
      (fun t => if h : 128 * c.val + t < 256 then rowPts d (gath tix tab) ⟨128 * c.val + t, h⟩ else iprop(emp)) (fun t h => dif_pos h)]
  rw [show 128 * c.val + 128 - 128 * c.val = 128 by omega]

/-- The sequencer's half of the array, which the last wait names. -/
def slabM (c : Fin (grid0.bound 0)) : Memref sig .scScalar .hbm S128x8x64 .f32 :=
  (oW).slice (Rect.unit (s := S256x8x64) (k0_off5 (coordsS c)) S128x8x64.size (k0_off5_inb (coordsS c))) (fun _ => rfl)

/-- The last wait: it takes the credits of all 128 copies, so every delivery is in hand after it. -/
theorem collect [∀ e, Nonempty (Elt F e)] (c : Fin (grid0.bound 0)) (O : CellTallies nD τ sig (HIx 1)) (W : Waits sig (HIx 1)) {hs hd} {α : Type}
    (kk : PUnit → Prog (TpuEff nD τ sig (Elt F) Λ₀ (Sq d c).2) α) (Q : α → sProp 𝕄) :
    iprop(Transfers.Batch (countersEmb (U := UU)) (Sq d c) (.dma cc0_scratch1.sem) (none : HIx 1) NN (deliv d tix tab c) 128 0
        ∗ owes (Sq d c) O W ∗ MayWait (Sq d c) (.dma cc0_scratch1.sem) (none : HIx 1) O)
      ⊢ iprop((iprop(ofCore d tix tab c.val ∗ semVal (Sq d c, .dma cc0_scratch1.sem) 0 ∗ owes (Sq d c) O (insert (SemLoc.dma cc0_scratch1.sem, none) W))
            -∗ wp frame (wpE (defs₀ (F := F)) 𝒱₀ (Sq d c) none) Set.univ (kk ⟨⟩) Q)
          -∗ wp frame (wpE (defs₀ (F := F)) 𝒱₀ (Sq d c) none) Set.univ (.op (.waitDma2 cc0_scratch1.sem (slabM c) (slabM c) hs hd) kk) Q) := by
  have hJ : (slabM c).view.dmaCredit = 2097152 := by
    show S128x8x64.numel * (EltTy.f32).bits = 2097152; decide
  have hR := Transfers.wp_waitBatchAllO (countersEmb (U := UU)) (defs := defs₀ (F := F)) 𝒱₀ (Sq d c) none (none : HIx 1) (N := NN) (J := 2097152) (k := kk) (Q := Q) (u := 0) (O := O) (W := W)
    (sem := cc0_scratch1.sem) (srcw := slabM c) (hsrc := hs) (hdst := hd) hJ (by decide) (D := deliv d tix tab c) (by decide)
  rw [← delivered]
  exact hR

/-- One trip: the word read, the check met, the copy issued. -/
theorem trip [∀ e, Nonempty (Elt F e)] (c : Fin (grid0.bound 0)) (hchk : ∀ j, k0_chk1 (tix j)) (k : Fin k0_t1_loop.trips) (u : Unit) :
    gInv d tix tab f₀ c k.val u ⊢ wp frame (wpE (defs₀ (F := F)) 𝒱₀ (Sq d c) none) Set.univ
      (k0_t1_body (coordsS c) iW (Memref.isWhole_whole _) tW (Memref.isWhole_whole _) oW (Memref.isWhole_whole _) sW (Memref.isWhole_whole _) cc0_scratch1 cc0_scoped0 k u)
      (gInv d tix tab f₀ c (k.val + 1)) := by
  have hk : k.val < 128 := by have := k.isLt; have := trips_eq; omega
  have hc : c.val < 2 := c.isLt
  have hi : 128 * c.val + k.val < 256 := by omega
  unfold gInv
  sl_unfold [k0_t1_body]
  unfold rows
  rw [Ring.bigSep_rangeSet_head (Φ := rowPts d f₀) (lo := 128 * c.val + k.val) (by omega) hi,
    show 128 * c.val + (k.val + 1) = 128 * c.val + k.val + 1 by omega]
  iintro ⟨HB, Ht, ⟨Hrow, Hrows⟩, Hs⟩
  sl_exec
  have hw : trip.sl.r d tix c k = tix (ix1 (rowNo c k)) := by
    unfold trip.sl.r
    refine Eq.trans ?_ (word_read d tix c k)
    show words d tix c _ = _
    congr 1
    funext a; match a with
    | ⟨0, _⟩ =>
      apply Fin.ext
      show k0_off2 k 0 + 1 * 0 = k.val
      rw [k0_off2_eq]; show k.val + 1 * 0 = k.val; omega
  ihave Ht' := (pointsTo_share (PosShare.mem_left_op_right _)).1 $$ Ht
  icases Ht' with ⟨Ht, Htok⟩
  have hw' : k0_chk1 (trip.sl.r d tix c k) := by rw [hw]; exact hchk _
  iapply (issue d tix tab f₀ c k hk (trip.sl.r d tix c k) hw' hw _ _ _) $$ [HB Htok Hrow]
  · isplitl [Htok]; · iexact Htok
    isplitl [Hrow]; · iexact Hrow
    iexact HB
  iintro HB
  sl_step
  isplitl [HB]; · iexact HB
  isplitl [Ht]; · iexact Ht
  isplitl [Hrows]; · iexact Hrows
  iexact Hs

theorem body [∀ e, Nonempty (Elt F e)] (c : Fin (grid0.bound 0)) (O : CellTallies nD τ sig (HIx 1)) (W : Waits sig (HIx 1)) (hO : ∀ g, O g none = 0)
    (hchk : ∀ j, k0_chk1 (tix j)) :
    iprop(levAts (K (F := F)).L (K (F := F)).lev ∗ emp ∗ toCore d tix tab f₀ c.val
        ∗ scopedBufs (Sq d c) ∗ scopedSems0 (Sq d c) ∗ owes (Sq d c) O W)
      ⊢ wp frame (wpE (defs₀ (F := F)) 𝒱₀ (Sq d c) none) Set.univ
          (cc0__sc_gather_body (coordsS c) iW (Memref.isWhole_whole _) tW (Memref.isWhole_whole _) oW (Memref.isWhole_whole _) sW (Memref.isWhole_whole _) cc0_scratch1 cc0_scoped0)
          fun _ => iprop(ofCore d tix tab c.val ∗ scopedBufs (Sq d c) ∗ scopedSems0 (Sq d c) ∗ ∃ W', ⌜∀ p ∈ W', p ∈ W ∨ p.2 = none⌝ ∗ owes (Sq d c) O W') := by
  simp only [cc0__sc_gather_body_eq_skeleton]
  sl_unfold [cc0__sc_gather_body_skel]
  unfold toCore
  iintro ⟨#Hlv, -, ⟨Hi, Ht, Hrows⟩, Hsb, Hss, HO⟩
  ihave Hss' := (SparseCore.Cfg.scopedSems0_S_elim (Val := Elt F) d ((coordsS c 0).castLE hcore0)) $$ Hss
  icases Hss' with ⟨Hown, Hsubs⟩
  ihave Hown' := (Entails.of_eq (ownSems0_S (F := F) d ((coordsS c 0).castLE hcore0))) $$ Hown
  icases Hown' with ⟨Hg, Hw, Hrest⟩
  ihave Hsb' := (SparseCore.Cfg.scopedBufs_S_elim (Val := Elt F) (K := K (F := F)) facts d ((coordsS c 0).castLE hcore0)) $$ Hsb
  icases Hsb' with ⟨Hob, Hbsubs⟩
  ihave Hob' := (Entails.of_eq (ownBufs_S (F := F) d ((coordsS c 0).castLE hcore0))) $$ Hob
  icases Hob' with ⟨⟨%fs, Hs⟩, Hbrest⟩
  ihave Hmw := ((K (F := F)).mayWaits_none (thr := Sq d c) hO) $$ Hlv
  ihave Hs' := (Entails.of_eq (pts_s (F := F) d ((coordsS c 0).castLE hcore0) _).symm) $$ Hs
  ihave Hi' := (show (iLoc d ↦{Transfers.shareTokN fullShare c.val} tix : sProp 𝕄) ⊢ ((iW).view.loc (Sq d c) ↦{Transfers.shareTokN fullShare c.val} tix) from by
    simp only [Memref.view_whole, View.set_whole]; exact .rfl) $$ Hi
  imod (Transfers.batch_alloc' (Lvl := ℕ) (countersEmb (U := UU)) (Sq d c) (none : HIx 1) NN (deliv d tix tab c) (sm := .dma cc0_scratch1.sem) (E := Set.univ)) $$ Hg with HB
  sl_exec
  have hwd : View.write (Elt F) (sW).view fs (body.sl.dma0 d tix c) Finset.univ = words d tix c := by
    refine (View.write_whole_univ cc0_scratch0 fs _).trans ?_
    unfold body.sl.dma0
    funext y
    show tix _ = tix _
    congr 1
    funext a; match a with
    | ⟨0, _⟩ =>
      apply Fin.ext
      show k0_off1 (coordsS c) 0 + 1 * (y 0).val = 128 * c.val + (y 0).val
      rw [k0_off1_eq]; show 128 * c.val + 1 * (y 0).val = 128 * c.val + (y 0).val; omega
  ihave Hs := (Entails.of_eq (congrArg (fun f => ((sW).view.loc (Sq d c) ↦{fullShare} f : sProp 𝕄)) hwd)) $$ Hs'
  sl_for (gInv d tix tab f₀ c) $$ [HB Ht Hrows Hs]
  case region => intro k u; exact trip d tix tab f₀ c hchk k u
  · unfold gInv
    isplitl [HB]; · iexact HB
    isplitl [Ht]; · iexact Ht
    isplitl [Hrows]; · iexact Hrows
    iexact Hs
  iintro %_ HI
  ihave HI' := (Entails.of_eq (congrArg (fun n => gInv d tix tab f₀ c n ()) trips_eq)) $$ HI
  unfold gInv
  icases HI' with ⟨HB, -, -, Hs⟩
  ihave HMW := (Transfers.MayWaits.elim (sm := .dma cc0_scratch1.sem)) $$ Hmw
  unfold body.sl.prog.cont_1
  iapply (collect d tix tab c O _ _ _) $$ [HB HO HMW]
  · isplitl [HB]; · iexact HB
    isplitl [HO]; · iexact HO
    iexact HMW
  iintro ⟨Hof, Hg, HO⟩
  rw [show ((Prog.ret PUnit.unit).bind fun _ : PUnit => (Pure.pure PUnit.unit : Prog (TpuEff nD τ sig (Elt F) Λ₀ (Sq d c).2) PUnit)) = Prog.ret PUnit.unit from rfl]
  sl_step
  isplitl [Hof]; · iexact Hof
  isplitl [Hs Hbrest Hbsubs]
  · iapply (SparseCore.Cfg.scopedBufs_S_intro (Val := Elt F) (K := K (F := F)) facts d ((coordsS c 0).castLE hcore0))
    isplitr [Hbsubs]
    · iapply (Entails.of_eq (ownBufs_S (F := F) d ((coordsS c 0).castLE hcore0)).symm)
      isplitl [Hs]
      · iexists (words d tix c); iapply (Entails.of_eq (pts_s (F := F) d ((coordsS c 0).castLE hcore0) _)); iexact Hs
      · iexact Hbrest
    · iexact Hbsubs
  isplitl [Hg Hw Hrest Hsubs]
  · iapply (SparseCore.Cfg.scopedSems0_S_intro (Val := Elt F) d ((coordsS c 0).castLE hcore0))
    isplitr [Hsubs]
    · iapply (Entails.of_eq (ownSems0_S (F := F) d ((coordsS c 0).castLE hcore0)).symm)
      isplitl [Hg]; · iexact Hg
      isplitl [Hw]; · iexact Hw
      iexact Hrest
    · iexact Hsubs
  iexists _
  isplitr
  rotate_left
  · iexact HO
  · ipureintro
    intro p hp
    rw [Finset.mem_insert, Finset.mem_insert] at hp
    rcases hp with rfl | rfl | hp
    · exact .inr rfl
    · exact .inr rfl
    · exact .inl hp

end Body

end Cert.Proof

end
-- ==== Proof.Call.lean ====
/-
  The SparseCore call as the launch theorem takes it: what @main hands each sequencer and takes back (`P`), and that
  each sequencer's body meets that contract (`scalarObl`), from the body's specification in Gather.lean.
-/
module

public import proofs.«01_k».proof.Proof.Gather

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iW" => (Memref.whole Cert.KernelIdeal.main_v2_scs : Memref Cert.KernelIdeal.sig Kind.scScalar Space.hbm Cert.KernelIdeal.S256 EltTy.i32)
local notation "tW" => (Memref.whole Cert.KernelIdeal.main_arg1_scs : Memref Cert.KernelIdeal.sig Kind.scScalar Space.hbm Cert.KernelIdeal.S100000x64 EltTy.f32)
local notation "oW" => (Memref.whole Cert.KernelIdeal.main_v3_scs : Memref Cert.KernelIdeal.sig Kind.scScalar Space.hbm Cert.KernelIdeal.S256x8x64 EltTy.f32)
local notation "sW" => (Memref.whole Cert.KernelIdeal.cc0_scratch0 : Memref Cert.KernelIdeal.sig Kind.scScalar Space.smem Cert.KernelIdeal.S128 EltTy.i32)

-- the contents the call finds, on each device: the shifted tokens' words, the table, the array to be filled
variable (tix : (d : Dev nD) → Buf (Elt F) (iLoc d)) (tab : (d : Dev nD) → Buf (Elt F) (tLoc d)) (f₀ : (d : Dev nD) → Buf (Elt F) (oLoc d))

/-- What the call carries: to each sequencer its read shares and its half of the array, from each its half gathered. -/
def P : (K (F := F)).Pay (nD := nD) (Val := Elt F) (Name := ℕ) (U := UU) where
  st := fun _ d c => toCore d (tix d) (tab d) (f₀ d) c.val
  dn := fun _ d c => ofCore d (tix d) (tab d) c.val
  go := fun _ _ _ _ => iprop(emp)
  td := fun _ _ _ _ => iprop(emp)
  x := fun _ _ => iprop(emp)

instance P_storable : (P (F := F) tix tab f₀).IsStorable where
  st _ d c := by unfold P; infer_instance
  dn _ d c := by unfold P; infer_instance
  go _ _ _ _ := by unfold P; infer_instance
  td _ _ _ _ := by unfold P; infer_instance

/-- What the call takes in all: the two sequencers' shares and halves; -/
theorem st_eq (d : Dev nD) : (bigSep Finset.univ fun c : Fin ((K (F := F)).nCore 0) => (P tix tab f₀).st 0 d c)
    = iprop(toCore d (tix d) (tab d) (f₀ d) 0 ∗ toCore d (tix d) (tab d) (f₀ d) 1) := by
  show (bigSep (Finset.univ : Finset (Fin 2)) fun c => toCore d (tix d) (tab d) (f₀ d) c.val) = _
  rw [show (Finset.univ : Finset (Fin 2)) = {0, 1} by decide, SparseCore.bigSep_insert' (by decide), bigSep_singleton]
  rfl
/-- and what it hands back: the array whole, gathered. -/
theorem dn_eq (d : Dev nD) : (bigSep Finset.univ fun c : Fin ((K (F := F)).nCore 0) => (P tix tab f₀).dn 0 d c)
    = (oLoc d ↦{fullShare} gath (tix d) (tab d) : sProp 𝕄) := by
  show (bigSep (Finset.univ : Finset (Fin 2)) fun c => ofCore d (tix d) (tab d) c.val) = _
  rw [show (Finset.univ : Finset (Fin 2)) = {0, 1} by decide, SparseCore.bigSep_insert' (by decide), bigSep_singleton, rows_halves]
  rfl

/-- @main's three arrays make what the call takes, the rest of the two read shares left over. -/
theorem st_intro (d : Dev nD) :
    iprop((iLoc d ↦{fullShare} tix d) ∗ (tLoc d ↦{fullShare} tab d) ∗ (oLoc d ↦{fullShare} f₀ d))
      ⊢ iprop((bigSep Finset.univ fun c : Fin ((K (F := F)).nCore 0) => (P tix tab f₀).st 0 d c)
          ∗ (tLoc d ↦{Transfers.shareDrop fullShare 2} tab d) : sProp 𝕄) := by
  rw [st_eq, rows_halves]
  unfold toCore
  iintro ⟨Hi, Ht, Ho0, Ho1⟩
  ihave Hi := (show (iLoc d ↦{fullShare} tix d : sProp 𝕄) ⊢ (iLoc d ↦{Transfers.shareDrop fullShare 0} tix d) from .rfl) $$ Hi
  ihave Ht := (show (tLoc d ↦{fullShare} tab d : sProp 𝕄) ⊢ (tLoc d ↦{Transfers.shareDrop fullShare 0} tab d) from .rfl) $$ Ht
  ihave Hi' := (pointsTo_share (PosShare.mem_left_op_right _)).1 $$ Hi
  icases Hi' with ⟨Hi, Hi0⟩
  ihave Hi' := (pointsTo_share (PosShare.mem_left_op_right _)).1 $$ Hi
  icases Hi' with ⟨-, Hi1⟩
  ihave Ht' := (pointsTo_share (PosShare.mem_left_op_right _)).1 $$ Ht
  icases Ht' with ⟨Ht, Ht0⟩
  ihave Ht' := (pointsTo_share (PosShare.mem_left_op_right _)).1 $$ Ht
  icases Ht' with ⟨Ht, Ht1⟩
  isplitr [Ht]
  · isplitl [Hi0 Ht0 Ho0]
    · isplitl [Hi0]; · iexact Hi0
      isplitl [Ht0]; · iexact Ht0
      iexact Ho0
    · isplitl [Hi1]; · iexact Hi1
      isplitl [Ht1]; · iexact Ht1
      iexact Ho1
  · iexact Ht

variable [FloatOps F]

theorem defs₀_scalar (c : Fin τ.nSC) :
    defs₀ (F := F) (.scScalar c) 0 ()
      = SparseCore.onCore hcore0 (fun c => cc0__sc_gather_body (coordsS c) iW (Memref.isWhole_whole _) tW (Memref.isWhole_whole _) oW (Memref.isWhole_whole _) sW (Memref.isWhole_whole _) cc0_scratch1 cc0_scoped0) ⟨⟩ c := rfl

/-- The record of waits that the body leaves, in the launch's form. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every sequencer of the call meets its contract, the words being such that every copy's source lies in the table. -/
theorem scalarObl [∀ e, Nonempty (Elt F e)] (hchk : ∀ d j, k0_chk1 (tix d j)) :
    (K (F := F)).ScalarObl (D (F := F)) 𝒱 (P tix tab f₀) v₀ 0 := by
  intro d c O W hO _ _
  simp only [show (P tix tab f₀).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ toCore d (tix d) (tab d) (f₀ d) c.val ∗ _) ⊢ wp _ _ _ _ (fun _ => iprop(ofCore d (tix d) (tab d) c.val ∗ _))
  exact (body d (tix d) (tab d) (f₀ d) ⟨c.val, hc⟩ O W hO (hchk d)).trans (wp_mono frame _ _ fun _ => weaken_waits)

end Cert.Proof

end
-- ==== Proof.Body.lean ====
/-
  One grid point of the TensorCore pipeline, run from its staging buffers: at point 0 the kernel puts the
  embedded tokens into its scratch buffer, and at every point it multiplies the scratch by the point's block
  of the output matrix and adds the block of the bias.
-/
module

public import proofs.«01_k».proof.Proof.Call
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The kernel's branch is taken at grid point 0 alone. -/
theorem first_point (i : grid1.Coords) :
    (Scalar.cmpi .ne (Scalar.extui (Scalar.cmpi .eq (BitVec.ofNat 32 (i 0).val) 0#32) : BitVec 32) 0#32 = 1#1) ↔ (i 0).val = 0 := by
  have h : ∀ k : Fin 7, (Scalar.cmpi .ne (Scalar.extui (Scalar.cmpi .eq (BitVec.ofNat 32 k.val) 0#32) : BitVec 32) 0#32 = 1#1) ↔ k.val = 0 := by decide
  exact h (i 0)

/-- What the scratch holds once the branch of point `i` is past: the embedded tokens of the three blocks at
    point 0, what it held elsewhere. -/
def scratchAt (i : grid1.Coords) (X0 : Vec F S256x8x64 .f32) (X1 : Vec F S256x8x1 .f32) (X2 : Vec F S256x64 .f32)
    (Sc : Vec F S256x64 .f32) : Vec F S256x64 .f32 :=
  if (i 0).val = 0 then k1_pay1 X0 X1 X2 else Sc

set_option maxHeartbeats 4000000 in
/-- The kernel body at point `i`, on whichever of its buffers each window's staging memref is: the inputs stay,
    the scratch ends at `scratchAt` and the output's buffer at its product with the matrix block plus the bias. -/
theorem body_run (c : Dev nD) (E : Set ℕ) (i : grid1.Coords) (s0 s1 s2 : Fin 1) (s3 s4 s5 : Fin 2)
    (X0 : Vec F S256x8x64 .f32) (X1 : Vec F S256x8x1 .f32) (X2 : Vec F S256x64 .f32) (X3 : Vec F S64x16384 .f32)
    (X4 : Vec F S1x16384 .f32) (X5 : Vec F S256x16384 .f32) (Sc : Vec F S256x64 .f32) (Q : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3
            ∗ owns (c : Thread nD τ) (stage1_4 s4) fullShare X4 ∗ owns (c : Thread nD τ) (stage1_5 s5) fullShare X5
            ∗ ((c : Thread nD τ).loc cc1_scratch0 ↦{fullShare} Sc))
          ∗ (iprop(owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3
            ∗ owns (c : Thread nD τ) (stage1_4 s4) fullShare X4
            ∗ owns (c : Thread nD τ) (stage1_5 s5) fullShare (k1_pay2 (scratchAt i X0 X1 X2 Sc) X3 X4)
            ∗ ((c : Thread nD τ).loc cc1_scratch0 ↦{fullShare} scratchAt i X0 X1 X2 Sc)) -∗ Q ⟨⟩))
      ⊢ wp frame (wpE (defs₀ (F := F)) 𝒱₀ c none) E
          (cc1__mm_body i (stage1_0 s0) (hstage1_0 s0) (stage1_1 s1) (hstage1_1 s1) (stage1_2 s2) (hstage1_2 s2)
            (stage1_3 s3) (hstage1_3 s3) (stage1_4 s4) (hstage1_4 s4) (stage1_5 s5) (hstage1_5 s5)
            (Memref.whole cc1_scratch0) (Memref.isWhole_whole _)) Q := by
  have hz2 : (![0, 0] : Fin 2 → Nat) = fun _ => 0 := funext fun a => by fin_cases a <;> rfl
  have hz3 : (![0, 0, 0] : Fin 3 → Nat) = fun _ => 0 := funext fun a => by fin_cases a <;> rfl
  obtain rfl : s0 = 0 := Subsingleton.elim _ _
  obtain rfl : s1 = 0 := Subsingleton.elim _ _
  obtain rfl : s2 = 0 := Subsingleton.elim _ _
  have hr0 : (Memref.whole cc1_stg0_0 : Memref sig .tc _ _ _).view.readAt (Elt F) (Rect.unit (s := S256x8x64) ![0, 0, 0] S256x8x64.size
      inb_S256x8x64_S256x8x64_0_0_0).toLoadRect = id := funext (Memref.readAt_unit_zero (Elt F) cc1_stg0_0 hz3 _)
  have hr1 : (Memref.whole cc1_stg1_0 : Memref sig .tc _ _ _).view.readAt (Elt F) (Rect.unit (s := S256x8x1) ![0, 0, 0] S256x8x1.size
      inb_S256x8x1_S256x8x1_0_0_0).toLoadRect = id := funext (Memref.readAt_unit_zero (Elt F) cc1_stg1_0 hz3 _)
  have hr2 : (Memref.whole cc1_stg2_0 : Memref sig .tc _ _ _).view.readAt (Elt F) (Rect.unit (s := S256x64) ![0, 0] S256x64.size
      inb_S256x64_S256x64_0_0).toLoadRect = id := funext (Memref.readAt_unit_zero (Elt F) cc1_stg2_0 hz2 _)
  have hrs : (Memref.whole cc1_scratch0 : Memref sig .tc _ _ _).view.readAt (Elt F) (Rect.unit (s := S256x64) ![0, 0] S256x64.size
      inb_S256x64_S256x64_0_0).toLoadRect = id := funext (Memref.readAt_unit_zero (Elt F) cc1_scratch0 hz2 _)
  have hws : ∀ f w, (((Memref.whole cc1_scratch0).access (Rect.unit (s := S256x64) ![0, 0] S256x64.size inb_S256x64_S256x64_0_0)) :
      View sig .tc _ _ _).write (Elt F) f w Finset.univ = w := Memref.write_access_unit_zero_univ (Elt F) cc1_scratch0 hz2 _
  have hr30 : (Memref.whole cc1_stg3_0 : Memref sig .tc _ _ _).view.readAt (Elt F) (Rect.unit (s := S64x16384) ![0, 0] S64x16384.size
      inb_S64x16384_S64x16384_0_0).toLoadRect = id := funext (Memref.readAt_unit_zero (Elt F) cc1_stg3_0 hz2 _)
  have hr31 : (Memref.whole cc1_stg3_1 : Memref sig .tc _ _ _).view.readAt (Elt F) (Rect.unit (s := S64x16384) ![0, 0] S64x16384.size
      inb_S64x16384_S64x16384_0_0).toLoadRect = id := funext (Memref.readAt_unit_zero (Elt F) cc1_stg3_1 hz2 _)
  have hr40 : (Memref.whole cc1_stg4_0 : Memref sig .tc _ _ _).view.readAt (Elt F) (Rect.unit (s := S1x16384) ![0, 0] S1x16384.size
      inb_S1x16384_S1x16384_0_0).toLoadRect = id := funext (Memref.readAt_unit_zero (Elt F) cc1_stg4_0 hz2 _)
  have hr41 : (Memref.whole cc1_stg4_1 : Memref sig .tc _ _ _).view.readAt (Elt F) (Rect.unit (s := S1x16384) ![0, 0] S1x16384.size
      inb_S1x16384_S1x16384_0_0).toLoadRect = id := funext (Memref.readAt_unit_zero (Elt F) cc1_stg4_1 hz2 _)
  have hw50 : ∀ f w, (((Memref.whole cc1_stg5_0).access (Rect.unit (s := S256x16384) ![0, 0] S256x16384.size inb_S256x16384_S256x16384_0_0)) :
      View sig .tc _ _ _).write (Elt F) f w Finset.univ = w := Memref.write_access_unit_zero_univ (Elt F) cc1_stg5_0 hz2 _
  have hw51 : ∀ f w, (((Memref.whole cc1_stg5_1).access (Rect.unit (s := S256x16384) ![0, 0] S256x16384.size inb_S256x16384_S256x16384_0_0)) :
      View sig .tc _ _ _).write (Elt F) f w Finset.univ = w := Memref.write_access_unit_zero_univ (Elt F) cc1_stg5_1 hz2 _
  by_cases hi : (i 0).val = 0
  · have hc := (first_point i).2 hi
    unfold scratchAt
    rw [if_pos hi]
    fin_cases s3 <;> fin_cases s4 <;> fin_cases s5 <;>
    · simp only [owns_whole_eq, cc1__mm_body_eq_skeleton]; unfold cc1__mm_body_skel
      simp only [dif_pos hc, Prog.lift, Prog.bind_op, Prog.bind_ret]
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, Hs⟩, Hk⟩
      subst hf0 hf1 hf2 hf3 hf4 hf5
      sl_steps
      iapply Hk
      simp only [hr0, hr1, hr2, hrs, hws, hr30, hr31, hr40, hr41, hw50, hw51, id]
      isplitl [H0]
      · iexists _; isplitr
        · ipureintro; rfl
        iexact H0
      isplitl [H1]
      · iexists _; isplitr
        · ipureintro; rfl
        iexact H1
      isplitl [H2]
      · iexists _; isplitr
        · ipureintro; rfl
        iexact H2
      isplitl [H3]
      · iexists _; isplitr
        · ipureintro; rfl
        iexact H3
      isplitl [H4]
      · iexists _; isplitr
        · ipureintro; rfl
        iexact H4
      isplitl [H5]
      · iexists _; isplitr
        · ipureintro; rfl
        iexact H5
      iexact Hs
  · have hc := mt (first_point i).1 hi
    unfold scratchAt
    rw [if_neg hi]
    fin_cases s3 <;> fin_cases s4 <;> fin_cases s5 <;>
    · simp only [owns_whole_eq, cc1__mm_body_eq_skeleton]; unfold cc1__mm_body_skel
      simp only [dif_neg hc, Prog.lift, Prog.bind_op, Prog.bind_ret]
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, Hs⟩, Hk⟩
      subst hf0 hf1 hf2 hf3 hf4 hf5
      sl_steps
      iapply Hk
      simp only [hr0, hr1, hr2, hrs, hws, hr30, hr31, hr40, hr41, hw50, hw51, id]
      isplitl [H0]
      · iexists _; isplitr
        · ipureintro; rfl
        iexact H0
      isplitl [H1]
      · iexists _; isplitr
        · ipureintro; rfl
        iexact H1
      isplitl [H2]
      · iexists _; isplitr
        · ipureintro; rfl
        iexact H2
      isplitl [H3]
      · iexists _; isplitr
        · ipureintro; rfl
        iexact H3
      isplitl [H4]
      · iexists _; isplitr
        · ipureintro; rfl
        iexact H4
      isplitl [H5]
      · iexists _; isplitr
        · ipureintro; rfl
        iexact H5
      iexact Hs

end Cert.Proof

end
-- ==== Proof.Region.lean ====
/-
  The TensorCore pipeline as one region of the program: its proof data over the arrays it is entered with, the body's
  obligation at every grid point, and the region's record.

  The last block of the output matrix overhangs the array, so part of the kernel's staging buffer holds words nothing
  names. Over values whose matrix product reads each output column from its own column of the right operand
  (`ColumnLocal`) those words never reach a column of the result; the output array is then named exactly. Over other
  values (the flag `fg`) the output array is left at contents nothing names, which is all the frame needs.
-/
module

public import proofs.«01_k».proof.Proof.Body
public import Idealize.ShloMosaic.Lib.Pipeline.RegionArraysF

@[expose] public section

noncomputable section

namespace Cert.Proof

open Cert.KernelIdeal Cert.KernelIdeal.Gen

open Idealize.ShloMosaic
open Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig (HIx 1) (Elt F) ℕ UU ℕ

/-- A column of the kernel's product depends only on that column of the matrix block and of the bias block. -/
def ColumnLocal (F : FTy → Type) [FloatOps F] : Prop :=
  ∀ (x : Vec F S256x64 .f32) (W W' : Vec F S64x16384 .f32) (b b' : Vec F S1x16384 .f32) (y : S256x16384.Idx),
    (∀ r : Fin 64, W (ix2 r (y 1)) = W' (ix2 r (y 1))) → b (ix2 0 (y 1)) = b' (ix2 0 (y 1)) →
    k1_pay2 x W b y = k1_pay2 x W' b' y

-- what each device's arrays hold when the region is entered
variable (V : (c : Dev nD) → Valuation τ sig (Elt F))
-- and the level below which the core's earlier waits were
variable (B : ℕ)

/-- The six arrays at entry, each as its window reads it. -/
abbrev arr0 (c : Dev nD) : Buf (Elt F) ((c : Thread nD τ).loc main_v3) := V c (Proc.devRef .tc main_v3)
abbrev arr1 (c : Dev nD) : Buf (Elt F) ((c : Thread nD τ).loc main_v13) := V c (Proc.devRef .tc main_v13)
abbrev arr2 (c : Dev nD) : Buf (Elt F) ((c : Thread nD τ).loc main_v17) := V c (Proc.devRef .tc main_v17)
abbrev arr3 (c : Dev nD) : Buf (Elt F) ((c : Thread nD τ).loc main_arg3) := V c (Proc.devRef .tc main_arg3)
abbrev arr4 (c : Dev nD) : Buf (Elt F) ((c : Thread nD τ).loc main_v18) := V c (Proc.devRef .tc main_v18)

/-- The blocks the fetches read at point `t`: the gathered rows, the selection, the positions, -/
def blk0 (c : Dev nD) (t : Fin cfg1.N) : Vec F S256x8x64 .f32 := (win1_0.blk t).view.read (Elt F) (arr0 V c)
def blk1 (c : Dev nD) (t : Fin cfg1.N) : Vec F S256x8x1 .f32 := (win1_1.blk t).view.read (Elt F) (arr1 V c)
def blk2 (c : Dev nD) (t : Fin cfg1.N) : Vec F S256x64 .f32 := (win1_2.blk t).view.read (Elt F) (arr2 V c)
/-- and the part inside the array of the matrix's and of the bias's block, -/
def part3 (c : Dev nD) (t : Fin cfg1.N) : (win1_3.xblock (grid1.coords t)).Idx → Elt F .f32 := (win1_3.blk t).view.read (Elt F) (arr3 V c)
def part4 (c : Dev nD) (t : Fin cfg1.N) : (win1_4.xblock (grid1.coords t)).Idx → Elt F .f32 := (win1_4.blk t).view.read (Elt F) (arr4 V c)
/-- each filled out past the array's end with zeros. -/
def blk3 (c : Dev nD) (t : Fin cfg1.N) : Vec F S64x16384 .f32 := win1_3.fill (grid1.coords t) (fun _ => Scalar.ofBits .f32 0#32) (part3 V c t)
def blk4 (c : Dev nD) (t : Fin cfg1.N) : Vec F S1x16384 .f32 := win1_4.fill (grid1.coords t) (fun _ => Scalar.ofBits .f32 0#32) (part4 V c t)

/-- The embedded tokens, as the kernel computes them at point 0. -/
def emb (c : Dev nD) : Vec F S256x64 .f32 := k1_pay1 (blk0 V c t1_0) (blk1 V c t1_0) (blk2 V c t1_0)

/-- The body's invariant: before point 0 the scratch holds anything, from then on the embedded tokens. -/
def inv (c : Dev nD) (t : Fin (cfg1.N + 1)) : sProp 𝕄 :=
  if t.val = 0 then iprop(∃ f : Buf (Elt F) ((c : Thread nD τ).loc cc1_scratch0), (c : Thread nD τ).loc cc1_scratch0 ↦{fullShare} f)
  else iprop((c : Thread nD τ).loc cc1_scratch0 ↦{fullShare} emb V c)

/-- The region's proof data. What the core's earlier waits recorded lies at or below the level `B`. -/
def dat (c : Dev nD) : Dat τ (Elt F) (HIx 1) ℕ UU ℕ cfg1 c where
  A w := V c (Proc.devRef .tc (Pipeline.arrRef spec1 w))
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => k1_pay2 (emb V c) (blk3 V c t) (blk4 V c t)
  Φ t := inv V c t
  q _ := fullShare
  owed _ := 0
  recorded _ := {p | (K (F := F)).lev ((c : Thread nD τ), p.1) p.2 ≤ B}

/-- Which windows are forgotten: the output's, at the flag. -/
def fgt (fg : Bool) : Fin 6 → Bool
  | 5 => fg
  | _ => false

theorem before0 (c : Dev nD) (t : Fin cfg1.N) (d) : (dat V B c).before (0 : Fin 6) t d = blk0 V c t :=
  (Dat.before_in_eq_fetched (dat V B c) 0 rfl (fun _ => rfl) (fun _ _ _ => rfl) (fun _ => rfl) t d).trans rfl
theorem before1 (c : Dev nD) (t : Fin cfg1.N) (d) : (dat V B c).before (1 : Fin 6) t d = blk1 V c t :=
  (Dat.before_in_eq_fetched (dat V B c) 1 rfl (fun _ => rfl) (fun _ _ _ => rfl) (fun _ => rfl) t d).trans rfl
theorem before2 (c : Dev nD) (t : Fin cfg1.N) (d) : (dat V B c).before (2 : Fin 6) t d = blk2 V c t :=
  (Dat.before_in_eq_fetched (dat V B c) 2 rfl (fun _ => rfl) (fun _ _ _ => rfl) (fun _ => rfl) t d).trans rfl
theorem before3 (c : Dev nD) (t : Fin cfg1.N) (d) : (dat V B c).before (3 : Fin 6) t d = win1_3.fill (grid1.coords t) d (part3 V c t) := by
  unfold Dat.before; rw [if_pos (fetch1_3 t)]; rfl
theorem before4 (c : Dev nD) (t : Fin cfg1.N) (d) : (dat V B c).before (4 : Fin 6) t d = win1_4.fill (grid1.coords t) d (part4 V c t) := by
  unfold Dat.before; rw [if_pos (fetch1_4 t)]; rfl

theorem coords_val (t : Fin cfg1.N) : ((grid1.coords t) 0).val = t.val := by
  rcases fin_N1 t with rfl | rfl | rfl | rfl | rfl | rfl | rfl <;> decide +kernel

/-- The three clipped windows cut the same columns, and the matrix's and the bias's keep every row. -/
theorem cuts (t : Fin cfg1.N) : win1_3.xsize (grid1.coords t) 1 = win1_5.xsize (grid1.coords t) 1
    ∧ win1_4.xsize (grid1.coords t) 1 = win1_5.xsize (grid1.coords t) 1
    ∧ win1_3.xsize (grid1.coords t) 0 = 64 ∧ win1_4.xsize (grid1.coords t) 0 = 1 := by
  rcases fin_N1 t with rfl | rfl | rfl | rfl | rfl | rfl | rfl <;> decide +kernel

/-- The product over filled-out blocks is, on the columns inside the array, the product over blocks filled out any
    other way. -/
theorem pay2_fill (hloc : ColumnLocal F) (c : Dev nD) (t : Fin cfg1.N) (x : Vec F S256x64 .f32)
    (d3 : Vec F S64x16384 .f32) (d4 : Vec F S1x16384 .f32) :
    k1_pay2 x (win1_3.fill (grid1.coords t) d3 (part3 V c t)) (win1_4.fill (grid1.coords t) d4 (part4 V c t))
      = win1_5.fill (grid1.coords t) (k1_pay2 x (win1_3.fill (grid1.coords t) d3 (part3 V c t)) (win1_4.fill (grid1.coords t) d4 (part4 V c t)))
          (win1_5.cut (grid1.coords t) (k1_pay2 x (blk3 V c t) (blk4 V c t))) := by
  obtain ⟨h3, h4, h30, h40⟩ := cuts t
  refine (win1_5.fill_congr_cut (grid1.coords t) (funext fun j => ?_)).symm
  have hj : (win1_5.xinj (grid1.coords t) j 1).val < win1_5.xsize (grid1.coords t) 1 := (j 1).isLt
  refine hloc x _ _ _ _ (win1_5.xinj (grid1.coords t) j) (fun r => ?_) ?_
  · have hm : win1_3.moved (grid1.coords t) (ix2 r (win1_5.xinj (grid1.coords t) j 1)) = true :=
      (win1_3.moved_iff _ _).mpr fun a => by
        match a with
        | ⟨0, _⟩ => exact lt_of_lt_of_eq r.isLt h30.symm
        | ⟨1, _⟩ => exact lt_of_lt_of_eq hj h3.symm
    unfold blk3 Window.fill; rw [dif_pos hm, dif_pos hm]
  · have hm : win1_4.moved (grid1.coords t) (ix2 0 (win1_5.xinj (grid1.coords t) j 1)) = true :=
      (win1_4.moved_iff _ _).mpr fun a => by
        match a with
        | ⟨0, _⟩ => exact lt_of_lt_of_eq Nat.zero_lt_one h40.symm
        | ⟨1, _⟩ => exact lt_of_lt_of_eq hj h4.symm
    unfold blk4 Window.fill; rw [dif_pos hm, dif_pos hm]

/-- The scratch after the branch of point `t` holds the embedded tokens. -/
theorem scratch_step (c : Dev nD) (t : Fin cfg1.N) (Sc : Vec F S256x64 .f32) (h : t.val ≠ 0 → Sc = emb V c) :
    scratchAt (grid1.coords t) (blk0 V c t) (blk1 V c t) (blk2 V c t) Sc = emb V c := by
  unfold scratchAt
  by_cases h0 : t.val = 0
  · rw [if_pos ((coords_val t).trans h0), show t = t1_0 from Fin.ext h0]; rfl
  · rw [if_neg (fun h' => h0 ((coords_val t).symm.trans h'))]; exact h h0

theorem inv_castSucc (c : Dev nD) (t : Fin cfg1.N) : inv V c t.castSucc
    ⊢ iprop(∃ f : Buf (Elt F) ((c : Thread nD τ).loc cc1_scratch0), ⌜t.val ≠ 0 → f = emb V c⌝ ∗ ((c : Thread nD τ).loc cc1_scratch0 ↦{fullShare} f)) := by
  unfold inv
  by_cases h0 : t.val = 0
  · rw [if_pos (show t.castSucc.val = 0 from h0)]
    iintro ⟨%f, H⟩; iexists f; isplitr; · ipureintro; exact fun h => absurd h0 h
    iexact H
  · rw [if_neg (show ¬ t.castSucc.val = 0 from h0)]
    iintro H; iexists emb V c; isplitr; · ipureintro; exact fun _ => rfl
    iexact H

theorem inv_succ (c : Dev nD) (t : Fin cfg1.N) : inv V c t.succ = iprop((c : Thread nD τ).loc cc1_scratch0 ↦{fullShare} emb V c) := by
  unfold inv; rw [if_neg (show ¬ t.succ.val = 0 from Nat.succ_ne_zero _)]

/-- A clipped window's buffer at the filled-out block is what the body's obligation asks of it. -/
theorem loose3 (c : Dev nD) (t : Fin cfg1.N) (d3 : Vec F S64x16384 .f32) :
    (owns (c : Thread nD τ) (stage1_3 (cfg1.slots t 3)) fullShare (win1_3.fill (grid1.coords t) d3 (part3 V c t)) : sProp 𝕄)
      ⊢ iprop(∃ d, owns (c : Thread nD τ) (stage1_3 (cfg1.slots t 3)) fullShare (win1_3.fill (grid1.coords t) d (win1_3.cut (grid1.coords t) (blk3 V c t)))) := by
  have h : win1_3.cut (grid1.coords t) (blk3 V c t) = part3 V c t := win1_3.cut_fill _ _ _
  rw [h]; iintro H; iexists d3; iexact H
theorem loose4 (c : Dev nD) (t : Fin cfg1.N) (d4 : Vec F S1x16384 .f32) :
    (owns (c : Thread nD τ) (stage1_4 (cfg1.slots t 4)) fullShare (win1_4.fill (grid1.coords t) d4 (part4 V c t)) : sProp 𝕄)
      ⊢ iprop(∃ d, owns (c : Thread nD τ) (stage1_4 (cfg1.slots t 4)) fullShare (win1_4.fill (grid1.coords t) d (win1_4.cut (grid1.coords t) (blk4 V c t)))) := by
  have h : win1_4.cut (grid1.coords t) (blk4 V c t) = part4 V c t := win1_4.cut_fill _ _ _
  rw [h]; iintro H; iexists d4; iexact H

/-- The body at a point, from the buffers as the loop hands them over, the output's at any contents: the inputs as
    they were, the invariant kept, the output's buffer at the product over the filled-out blocks. -/
theorem body_at (c : Dev nD) (t : Fin cfg1.N) (d3 : Vec F S64x16384 .f32) (d4 : Vec F S1x16384 .f32) (X5 : Vec F S256x16384 .f32)
    (R Q : sProp 𝕄)
    (hQ : iprop(R ∗ owns (c : Thread nD τ) (stage1_0 (cfg1.slots t 0)) fullShare (blk0 V c t) ∗ owns (c : Thread nD τ) (stage1_1 (cfg1.slots t 1)) fullShare (blk1 V c t)
          ∗ owns (c : Thread nD τ) (stage1_2 (cfg1.slots t 2)) fullShare (blk2 V c t)
          ∗ owns (c : Thread nD τ) (stage1_3 (cfg1.slots t 3)) fullShare (win1_3.fill (grid1.coords t) d3 (part3 V c t))
          ∗ owns (c : Thread nD τ) (stage1_4 (cfg1.slots t 4)) fullShare (win1_4.fill (grid1.coords t) d4 (part4 V c t))
          ∗ owns (c : Thread nD τ) (stage1_5 (cfg1.slots t 5)) fullShare
              (k1_pay2 (emb V c) (win1_3.fill (grid1.coords t) d3 (part3 V c t)) (win1_4.fill (grid1.coords t) d4 (part4 V c t)))
          ∗ inv V c t.succ) ⊢ Q) :
    iprop(R ∗ owns (c : Thread nD τ) (stage1_0 (cfg1.slots t 0)) fullShare (blk0 V c t) ∗ owns (c : Thread nD τ) (stage1_1 (cfg1.slots t 1)) fullShare (blk1 V c t)
          ∗ owns (c : Thread nD τ) (stage1_2 (cfg1.slots t 2)) fullShare (blk2 V c t)
          ∗ owns (c : Thread nD τ) (stage1_3 (cfg1.slots t 3)) fullShare (win1_3.fill (grid1.coords t) d3 (part3 V c t))
          ∗ owns (c : Thread nD τ) (stage1_4 (cfg1.slots t 4)) fullShare (win1_4.fill (grid1.coords t) d4 (part4 V c t))
          ∗ owns (c : Thread nD τ) (stage1_5 (cfg1.slots t 5)) fullShare X5 ∗ inv V c t.castSucc)
      ⊢ wp frame (wpE (defs₀ (F := F)) 𝒱₀ c none) Set.univ (defs₀ .tc cfg1.body (cfg1.bodyArgs t (cfg1.slots t))) fun _ => Q := by
  iintro ⟨HR, H0, H1, H2, H3, H4, H5, HI⟩
  ihave HI' := (inv_castSucc V c t) $$ HI
  icases HI' with ⟨%f, %hf, HS⟩
  iapply (body_run (F := F) c Set.univ (grid1.coords t) (cfg1.slots t 0) (cfg1.slots t 1) (cfg1.slots t 2)
    (cfg1.slots t 3) (cfg1.slots t 4) (cfg1.slots t 5) (blk0 V c t) (blk1 V c t) (blk2 V c t)
    (win1_3.fill (grid1.coords t) d3 (part3 V c t)) (win1_4.fill (grid1.coords t) d4 (part4 V c t)) X5 f _)
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  rw [scratch_step V c t f hf]
  iintro ⟨H0, H1, H2, H3, H4, H5, HS⟩
  iapply hQ
  rw [inv_succ]
  isplitl [HR]; · iexact HR
  isplitl [H0]; · iexact H0
  isplitl [H1]; · iexact H1
  isplitl [H2]; · iexact H2
  isplitl [H3]; · iexact H3
  isplitl [H4]; · iexact H4
  isplitl [H5]; · iexact H5
  iexact HS

/-- The library's body obligation, the output window forgotten at the flag. -/
theorem body_obligation (fg : Bool) (hloc : fg = false → ColumnLocal F) (c : Dev nD) :
    BodyObligationLoose (dat V B c) (defs₀ (F := F)) 𝒱₀ (none : HIx 1) Set.univ (fgt fg) := fun t => by
  rw [bigSep_W1, bigSep_W1]
  rw [show (dat V B c).Φ t.succ = inv V c t.succ from rfl, show (dat V B c).Φ t.castSucc = inv V c t.castSucc from rfl,
    show (dat V B c).owesAt (none : HIx 1) t.succ = (dat V B c).owesAt (none : HIx 1) t.castSucc from rfl]
  cases fg
  · simp only [fgt]
    iintro ⟨HI, HO, ⟨%d0, H0⟩, ⟨%d1, H1⟩, ⟨%d2, H2⟩, ⟨%d3, H3⟩, ⟨%d4, H4⟩, ⟨%d5, H5⟩⟩
    rw [before0, before1, before2, before3, before4]
    iapply (body_at V c t d3 d4 ((dat V B c).before (5 : Fin 6) t d5) ((dat V B c).owesAt (none : HIx 1) t.castSucc) _ ?_)
    rotate_right
    · isplitl [HO]; · iexact HO
      isplitl [H0]; · iexact H0
      isplitl [H1]; · iexact H1
      isplitl [H2]; · iexact H2
      isplitl [H3]; · iexact H3
      isplitl [H4]; · iexact H4
      isplitl [H5]; · iexact H5
      iexact HI
    · iintro ⟨HO, H0, H1, H2, H3, H4, H5, HI⟩
      isplitl [HI]; · iexact HI
      isplitl [HO]; · iexact HO
      isplitl [H0]; · iexact H0
      isplitl [H1]; · iexact H1
      isplitl [H2]; · iexact H2
      isplitl [H3]; · iapply (loose3 V c t d3); iexact H3
      isplitl [H4]; · iapply (loose4 V c t d4); iexact H4
      rw [pay2_fill V (hloc rfl) c t]
      iexists _; iexact H5
  · simp only [fgt]
    iintro ⟨HI, HO, ⟨%d0, H0⟩, ⟨%d1, H1⟩, ⟨%d2, H2⟩, ⟨%d3, H3⟩, ⟨%d4, H4⟩, ⟨%X5, H5⟩⟩
    rw [before0, before1, before2, before3, before4]
    iapply (body_at V c t d3 d4 X5 ((dat V B c).owesAt (none : HIx 1) t.castSucc) _ ?_)
    rotate_right
    · isplitl [HO]; · iexact HO
      isplitl [H0]; · iexact H0
      isplitl [H1]; · iexact H1
      isplitl [H2]; · iexact H2
      isplitl [H3]; · iexact H3
      isplitl [H4]; · iexact H4
      isplitl [H5]; · iexact H5
      iexact HI
    · iintro ⟨HO, H0, H1, H2, H3, H4, H5, HI⟩
      isplitl [HI]; · iexact HI
      isplitl [HO]; · iexact HO
      isplitl [H0]; · iexact H0
      isplitl [H1]; · iexact H1
      isplitl [H2]; · iexact H2
      isplitl [H3]; · iapply (loose3 V c t d3); iexact H3
      isplitl [H4]; · iapply (loose4 V c t d4); iexact H4
      iexists _; iexact H5

/-! ## The region's record -/

/-- The pipeline has no prefetched table. -/
abbrev adm : (p : Fin 1) → (pcfgs (F := F) p).Adm := fun p => (cfgs p).toPCfg_adm

/-- The proof data and the forgotten windows of the program's one pipeline. -/
def pdats : (p : Fin 1) → (c : Dev nD) → Dat τ (Elt F) (HIx 1) ℕ UU ℕ (Pipeline.pin (pcfgs (F := F)) adm p) c
  | ⟨0, _⟩ => fun c => dat V B c
def fgts (fg : Bool) : (p : Fin 1) → Fin (Pipeline.pin (pcfgs (F := F)) adm p).W → Bool
  | ⟨0, _⟩ => fgt fg

/-- The core's debts as the region finds and leaves them: none, its recorded waits at or below `B`. -/
abbrev settled (c : Dev nD) : sProp 𝕄 :=
  iprop(∃ W : Waits sig (HIx 1), ⌜∀ p ∈ W, (K (F := F)).lev ((c : Thread nD τ), p.1) p.2 ≤ B⌝ ∗ owes (c : Thread nD τ) (0 : CellTallies nD τ sig (HIx 1)) W)

/-- The result array after the region, where it is named. -/
def out (c : Dev nD) : Buf (Elt F) ((c : Thread nD τ).loc main_v19) := (dat V B c).arrAt (5 : Fin 6) cfg1.N

/-- The launch's layout facts of the pipeline. -/
theorem kit : Pipeline.PLaunchFacts (nD := nD) (τ := τ) (pcfgs (F := F)) 0 := launch1.toP

/-- Contents of the arrays that the region may end with are, at the result's own, the entry contents otherwise. -/
theorem final_at (fg : Bool) (c : Dev nD) (G : (w : Fin 6) → Buf (Elt F) ((win1 w).arr.view.loc (c : Thread nD τ)))
    (hG : ∀ w, fgt fg w = false → G w = (dat V B c).arrAt w cfg1.N) (w : Fin 6) :
    G w = Function.update (V c) (Proc.devRef .tc main_v19) (G (5 : Fin 6)) (Proc.devRef .tc (Pipeline.arrRef spec1 w)) := by
  match w with
  | 0 => rw [Function.update_of_ne (by decide)]; exact (hG 0 rfl).trans ((dat V B c).arrAt_in 0 rfl _)
  | 1 => rw [Function.update_of_ne (by decide)]; exact (hG 1 rfl).trans ((dat V B c).arrAt_in 1 rfl _)
  | 2 => rw [Function.update_of_ne (by decide)]; exact (hG 2 rfl).trans ((dat V B c).arrAt_in 2 rfl _)
  | 3 => rw [Function.update_of_ne (by decide)]; exact (hG 3 rfl).trans ((dat V B c).arrAt_in 3 rfl _)
  | 4 => rw [Function.update_of_ne (by decide)]; exact (hG 4 rfl).trans ((dat V B c).arrAt_in 4 rfl _)
  | 5 => exact (Function.update_self (Proc.devRef .tc main_v19) (G (5 : Fin 6)) (V c)).symm

/-- The region: entered from its six arrays held whole, left with the inputs as they were and the result, where the
    flag does not forget it, at what the proof data name. -/
def region [∀ e, Nonempty (Elt F e)] (fg : Bool) (hloc : fg = false → ColumnLocal F) :
    RDat.RegionSeg (pcfgs (F := F)) adm (Pipeline.toRsF (pcfgs (F := F)) adm (pdats V B) (fgts fg)) (none : HIx 1) (defs₀ (F := F)) 𝒱₀
      (K (F := F)).L (K (F := F)).lev 0 where
  win := (kit (F := F)).to₀.win
  block_pos := (kit (F := F)).to₀.block_pos
  stage_whole := (kit (F := F)).to₀.stage_whole
  K := PEmpty
  osem := fun k => k.elim
  ho := Pipeline.OwnSemFacts.none _
  hbody c := (body_obligation V B fg hloc c).toRForget
  hwaits := RDat.hwaits_of_owed_zero (pcfgs (F := F)) adm _ _ _ _ 0 fun _ _ => rfl
  pre c := iprop(StableHlo.held (c : Thread nD τ) (Pipeline.arrRefs spec1) (V c) ∗ settled B c)
  post c := iprop((∃ o : Buf (Elt F) ((c : Thread nD τ).loc main_v19), ⌜fg = false → o = out V B c⌝
      ∗ StableHlo.held (c : Thread nD τ) (Pipeline.arrRefs spec1) (Function.update (V c) (Proc.devRef .tc main_v19) o)) ∗ settled B c)
  X _ := iprop(emp)
  Y _ := iprop(emp)
  Z _ := iprop(emp)
  hentry c := by
    rw [Pipeline.prefHeld_of_none _ rfl, ← Pipeline.arrays_held (pcfgs (F := F)) adm (pdats V B) (p := 0) kit c
      (fun w => (dat V B c).share_full (fun _ => rfl) w) (fun w => (dat V B c).arrAt w 0) (V c) (fun _ => rfl)]
    show _ ⊢ |={Set.univ}=> iprop((dat V B c).arrays ((dat V B c).arrAt · 0) ∗ emp ∗ (dat V B c).owesAt (none : HIx 1) 0 ∗ emp ∗ emp)
    iintro ⟨⟨Ha, HO⟩, -, -⟩
    imodintro
    isplitl [Ha]; · iexact Ha
    isplitr; · iempintro
    isplitl [HO]
    · icases HO with ⟨%W, %hW, HO⟩
      iexists W; isplitr; · ipureintro; exact fun p hp => Or.inl (hW p hp)
      iexact HO
    isplitr <;> iempintro
  hin c := by
    show iprop(emp ∗ _ ∗ Pipeline.scopedRest spec1 c) ⊢ inv V c 0
    rw [scopedRest1_eq]; unfold inv; rw [if_pos (show (0 : Fin (cfg1.N + 1)).val = 0 from rfl)]
    iintro ⟨-, -, H⟩; iexact H
  hout c := by
    show inv V c (Fin.last cfg1.N) ⊢ iprop(emp ∗ Pipeline.ownSems0 (fun k : PEmpty => k.elim) c ∗ Pipeline.scopedRest spec1 c)
    rw [scopedRest1_eq, Pipeline.ownSems0_none]; unfold inv; rw [if_neg (show ¬ (Fin.last cfg1.N).val = 0 by decide)]
    iintro H
    isplitr; · iempintro
    isplitr; · iempintro
    iexists _; iexact H
  hexit c := by
    show iprop(((dat V B c).toRForget (fgt fg)).arraysAt cfg1.N ∗ (dat V B c).owesAt (none : HIx 1) (Fin.last cfg1.N) ∗ emp ∗ emp) ⊢ _
    iintro ⟨Ha, HO, -, -⟩
    imodintro
    isplitl [Ha]
    · ihave Ha := ((dat V B c).arraysAt_forget (fgt fg) cfg1.N) $$ Ha
      icases Ha with ⟨%G, %hG, Ha⟩
      iexists G (5 : Fin 6)
      isplitr; · ipureintro; exact fun h => hG (5 : Fin 6) h
      rw [← Pipeline.arrays_held (pcfgs (F := F)) adm (pdats V B) (p := 0) kit c (fun w => (dat V B c).share_full (fun _ => rfl) w) G _
        (final_at V B fg c G hG)]
      iexact Ha
    · icases HO with ⟨%W, %hW, HO⟩
      iexists W; isplitr
      · ipureintro
        intro p hp
        rcases hW hp with h | ⟨w, s, h⟩
        · exact h
        · subst h; exact Nat.zero_le _
      iexact HO

/-- The pipeline's call, run from the six arrays held: the launch's obligation on @main at that statement. -/
theorem region_call [∀ e, Nonempty (Elt F e)] (fg : Bool) (hloc : fg = false → ColumnLocal F) (c : Dev nD) (Q : PUnit → sProp 𝕄) :
    iprop((iprop(boundary (c : Thread nD τ)
            ∗ (∃ o : Buf (Elt F) ((c : Thread nD τ).loc main_v19), ⌜fg = false → o = out V B c⌝
              ∗ StableHlo.held (c : Thread nD τ) (Pipeline.arrRefs spec1) (Function.update (V c) (Proc.devRef .tc main_v19) o)) ∗ settled B c) -∗ Q ⟨⟩)
        ∗ boundary (c : Thread nD τ) ∗ (StableHlo.held (c : Thread nD τ) (Pipeline.arrRefs spec1) (V c) ∗ settled B c)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (c : Thread nD τ) none) Set.univ
          (Prog.lift (.customCall (SparseCore.inner (Pipeline.entry 0)) ())) Q := by
  have h' := (K (F := F)).wp_liftProg (Name := ℕ) (U := UU) (N := 1) (D (F := F)) 𝒱 (c : Thread nD τ) Set.univ none
    (Prog.op (.customCall (Pipeline.entry 0) ()) .ret : Prog (TpuEff nD τ sig (Elt F) (ΛP (F := F)) .tc) PUnit) Q
  refine BIBase.Entails.trans ?_ h'
  have h := RDat.RegionSeg.wp (pcfgs (F := F)) adm (Pipeline.toRsF (pcfgs (F := F)) adm (pdats V B) (fgts fg)) (none : HIx 1)
    cellOf_inj EP (defs₀ (F := F)) 𝒱₀ (K (F := F)).L (K (F := F)).lev (p := 0) (region V B fg hloc) c none (fun _ h => nomatch h) (fun u => .ret u) Q
  rw [show (region V B fg hloc).pre c = iprop(StableHlo.held (c : Thread nD τ) (Pipeline.arrRefs spec1) (V c) ∗ settled B c) from rfl,
    show (region V B fg hloc).post c = iprop((∃ o : Buf (Elt F) ((c : Thread nD τ).loc main_v19), ⌜fg = false → o = out V B c⌝
      ∗ StableHlo.held (c : Thread nD τ) (Pipeline.arrRefs spec1) (Function.update (V c) (Proc.devRef .tc main_v19) o)) ∗ settled B c) from rfl] at h
  refine BIBase.Entails.trans ?_ h
  iintro ⟨Hk, Hb, Hp, HL, Hg, Ht⟩
  isplitl [Hk]
  · iintro H; rw [wp_ret]; imodintro; iapply Hk; iexact H
  isplitl [Hb]; · iexact Hb
  isplitl [Hp]; · iexact Hp
  isplitl [HL]; · iexact HL
  isplitl [Hg]; · iexact Hg
  iexact Ht

end Cert.Proof

end
-- ==== Proof.Main.lean ====
/-
  @main on each device's TensorCore: the host operations before the SparseCore call, the call, the host operations after
  it, the TensorCore pipeline, and the final reshape; and from it the whole program's run. Every step is stated with the
  arrays' contents, so the run gives the arguments unchanged and the result named.
-/
module

public import proofs.«01_k».proof.Proof.Region

@[expose] public section

noncomputable section

namespace Cert.Proof

open Cert.KernelIdeal Cert.KernelIdeal.Gen

open Idealize.ShloMosaic
open Idealize.ShloMosaic.TcCoe Idealize.ShloMosaic.ValueIdx
open Idealize.ShloMosaic.StableHlo (held after seq tcRefs wp_seq wp_hlo_within held_sub_split held_congr)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

/-- The words before the call: the tokens in a row, shifted right by three. -/
def opsA : List (HloOp τ sig (Elt F)) :=
  [StableHlo.reshape main_arg0 main_v0 (rfl : (.i32 : EltTy) = .i32) shapeCasts_S32x8_S256,
   StableHlo.nullary main_c (constantI S_ 32 3#32),
   StableHlo.unary main_c main_v1 (broadcastInDim S256 ![] bcast_S_S256 : (⟨S_, .i32⟩ : BufTy).Contents (Elt F) → (⟨S256, .i32⟩ : BufTy).Contents (Elt F)),
   StableHlo.binary main_v0 main_v1 main_v2 (Host.shrsi : (⟨S256, .i32⟩ : BufTy).Contents (Elt F) → (⟨S256, .i32⟩ : BufTy).Contents (Elt F) → (⟨S256, .i32⟩ : BufTy).Contents (Elt F))]

/-- Between the two calls: the one-hot selection of the row within its group of eight, the positions' rows repeated,
    and the bias as a row. -/
def opsB : List (HloOp τ sig (Elt F)) :=
  [StableHlo.unary main_v0 main_v4 (broadcastInDim S256x1 ![0] bcast_S256_S256x1_0 : (⟨S256, .i32⟩ : BufTy).Contents (Elt F) → (⟨S256x1, .i32⟩ : BufTy).Contents (Elt F)),
   StableHlo.nullary main_c_0 (constantI S_ 32 7#32),
   StableHlo.unary main_c_0 main_v5 (broadcastInDim S256x1 ![] bcast_S_S256x1 : (⟨S_, .i32⟩ : BufTy).Contents (Elt F) → (⟨S256x1, .i32⟩ : BufTy).Contents (Elt F)),
   StableHlo.binary main_v4 main_v5 main_v6 (andi : (⟨S256x1, .i32⟩ : BufTy).Contents (Elt F) → (⟨S256x1, .i32⟩ : BufTy).Contents (Elt F) → (⟨S256x1, .i32⟩ : BufTy).Contents (Elt F)),
   StableHlo.nullary main_v7 (iotaInDim S8 32 0),
   StableHlo.unary main_v7 main_v8 (broadcastInDim S1x8 ![1] bcast_S8_S1x8_1 : (⟨S8, .i32⟩ : BufTy).Contents (Elt F) → (⟨S1x8, .i32⟩ : BufTy).Contents (Elt F)),
   StableHlo.unary main_v6 main_v9 (broadcastInDim S256x8 ![0, 1] bcast_S256x1_S256x8_0_1 : (⟨S256x1, .i32⟩ : BufTy).Contents (Elt F) → (⟨S256x8, .i32⟩ : BufTy).Contents (Elt F)),
   StableHlo.unary main_v8 main_v10 (broadcastInDim S256x8 ![0, 1] bcast_S1x8_S256x8_0_1 : (⟨S1x8, .i32⟩ : BufTy).Contents (Elt F) → (⟨S256x8, .i32⟩ : BufTy).Contents (Elt F)),
   StableHlo.binary main_v9 main_v10 main_v11 (cmpi .eq : (⟨S256x8, .i32⟩ : BufTy).Contents (Elt F) → (⟨S256x8, .i32⟩ : BufTy).Contents (Elt F) → (⟨S256x8, .i1⟩ : BufTy).Contents (Elt F)),
   StableHlo.unary main_v11 main_v12 (uitofp .f32 : (⟨S256x8, .i1⟩ : BufTy).Contents (Elt F) → (⟨S256x8, .f32⟩ : BufTy).Contents (Elt F)),
   StableHlo.unary main_v12 main_v13 (broadcastInDim S256x8x1 ![0, 1] bcast_S256x8_S256x8x1_0_1 : (⟨S256x8, .f32⟩ : BufTy).Contents (Elt F) → (⟨S256x8x1, .f32⟩ : BufTy).Contents (Elt F)),
   StableHlo.unary main_arg2 main_v14 ((extractStridedSlice S8x64 ![0, 0] · slices_S2048x64_S8x64_0_0) : (⟨S2048x64, .f32⟩ : BufTy).Contents (Elt F) → (⟨S8x64, .f32⟩ : BufTy).Contents (Elt F)),
   StableHlo.reshape main_v14 main_v15 (rfl : (.f32 : EltTy) = .f32) shapeCasts_S8x64_S1x8x1x64,
   StableHlo.unary main_v15 main_v16 (broadcastInDim S32x8x1x64 ![0, 1, 2, 3] bcast_S1x8x1x64_S32x8x1x64_0_1_2_3 : (⟨S1x8x1x64, .f32⟩ : BufTy).Contents (Elt F) → (⟨S32x8x1x64, .f32⟩ : BufTy).Contents (Elt F)),
   StableHlo.reshape main_v16 main_v17 (rfl : (.f32 : EltTy) = .f32) shapeCasts_S32x8x1x64_S256x64,
   StableHlo.reshape main_arg4 main_v18 (rfl : (.f32 : EltTy) = .f32) shapeCasts_S100000_S1x100000]

/-- The result: the output matrix's rows as batches of positions. -/
def opsC : List (HloOp τ sig (Elt F)) :=
  [StableHlo.reshape main_v19 main_v20 (rfl : (.f32 : EltTy) = .f32) shapeCasts_S256x100000_S32x8x100000]

/-- @main is the three lines of host operations with the two calls between them. -/
theorem main_eq (d : Dev nD) : main (F := F) d
    = (seq opsA >>= fun _ => (sc (F := F)).run d 0 >>= fun _ => seq opsB >>= fun _ =>
        Prog.lift (.customCall (SparseCore.inner (Pipeline.entry 0)) ()) >>= fun _ => seq opsC >>= fun _ => pure ⟨⟩) := by
  simp only [StableHlo.seq_bind_seqK]; rfl

/-! ## The arrays -/

/-- A TensorCore array as a buffer of the device. -/
abbrev R (b : Ref sig .tc) : DevRef τ sig := Proc.devRef .tc b

/-- Every array of the program, -/
def S0 : Finset (DevRef τ sig) := (tcRefs τ sig).filter fun b => ¬ b.isScoped
/-- and those left whole after the SparseCore call has taken its read shares of the words and the table. -/
def S1 : Finset (DevRef τ sig) := S0 \ {R main_v2, R main_arg1}

theorem mem_S0 (b : Ref sig .tc) (h : (R b).isScoped = false) : R b ∈ S0 :=
  Finset.mem_filter.mpr ⟨StableHlo.devRef_mem_tcRefs b, by rw [h]; decide⟩

theorem mem_S1 (b : Ref sig .tc) (h : (R b).isScoped = false) (h₁ : b ≠ main_v2) (h₂ : b ≠ main_arg1) : R b ∈ S1 := by
  refine Finset.mem_sdiff.mpr ⟨mem_S0 b h, fun hm => ?_⟩
  rcases Finset.mem_insert.mp hm with h | h
  · exact h₁ (Proc.devRef_injective _ h)
  · exact h₂ (Proc.devRef_injective _ (Finset.mem_singleton.mp h))

theorem opsA_sub : ∀ op ∈ opsA (F := F), op.bufs ⊆ S0 := by
  unfold opsA
  simp only [List.mem_cons, List.not_mem_nil, or_false, forall_eq_or_imp, forall_eq, StableHlo.unary_bufs, StableHlo.binary_bufs,
    StableHlo.reshape_bufs, StableHlo.nullary_bufs, Finset.insert_subset_iff, Finset.singleton_subset_iff]
  repeat' constructor
  all_goals exact mem_S0 _ rfl

theorem opsB_sub : ∀ op ∈ opsB (F := F), op.bufs ⊆ S1 := by
  unfold opsB
  simp only [List.mem_cons, List.not_mem_nil, or_false, forall_eq_or_imp, forall_eq, StableHlo.unary_bufs, StableHlo.binary_bufs,
    StableHlo.reshape_bufs, StableHlo.nullary_bufs, Finset.insert_subset_iff, Finset.singleton_subset_iff]
  repeat' constructor
  all_goals exact mem_S1 _ rfl (by decide) (by decide)

theorem opsC_sub : ∀ op ∈ opsC (F := F), op.bufs ⊆ S1 := by
  unfold opsC
  simp only [List.mem_cons, List.not_mem_nil, or_false, forall_eq_or_imp, forall_eq,
    StableHlo.reshape_bufs, Finset.insert_subset_iff, Finset.singleton_subset_iff]
  exact ⟨mem_S1 _ rfl (by decide) (by decide), mem_S1 _ rfl (by decide) (by decide)⟩

theorem arr_sub : Pipeline.arrRefs spec1 ⊆ S1 := by
  intro b hb
  obtain ⟨r, hr, rfl⟩ := Finset.mem_map.mp hb
  obtain ⟨w, -, rfl⟩ := Finset.mem_image.mp hr
  fin_cases w <;> exact mem_S1 _ rfl (by decide) (by decide)

/-! ## What the arrays hold at each stage -/

variable (m : (ℓ : Loc nD τ sig) → Buf (Elt F) ℓ) (ρ : Dev nD → PrngReg)

/-- At the launch; -/
def V0 (d : Dev nD) : Valuation τ sig (Elt F) := fun b => m (d, b)
/-- before the SparseCore call; -/
def Vb (d : Dev nD) : Valuation τ sig (Elt F) := after opsA (V0 m d)
/-- the call's words, -/
abbrev tixOf (d : Dev nD) : Buf (Elt F) (iLoc d) := Vb m d (R main_v2)
/-- its table, -/
abbrev tabOf (d : Dev nD) : Buf (Elt F) (tLoc d) := Vb m d (R main_arg1)
/-- and what its result held before. -/
abbrev oldOf (d : Dev nD) : Buf (Elt F) (oLoc d) := Vb m d (R main_v3)
/-- After the call: the gathered blocks in their array; -/
def Vc (d : Dev nD) : Valuation τ sig (Elt F) := Function.update (Vb m d) (R main_v3) (gath (tixOf m d) (tabOf m d))
/-- when the pipeline is entered; -/
def Vd (d : Dev nD) : Valuation τ sig (Elt F) := after opsB (Vc m d)
/-- and at the end, the pipeline having left `o`. -/
def Ve (d : Dev nD) (o : Buf (Elt F) ((d : Thread nD τ).loc main_v19)) : Valuation τ sig (Elt F) :=
  after opsC (Function.update (Vd m d) (R main_v19) o)

/-- The level below which the TensorCore's waits lie after the call. -/
abbrev Bnd : ℕ := 8 * SparseCore.Cfg.Blocks.fst (Q := 1) (N := 1) 1

theorem unscoped_held (d : Dev nD) :
    (unscopedBufs d (fun b => m ((SparseCore.T d).loc b)) : sProp 𝕄) = held (d : Thread nD τ) S0 (V0 m d) := by
  unfold unscopedBufs held S0 tcRefs
  rw [Finset.filter_map, BI.bigSep_map]; rfl

/-- The three arrays of the call out of all of them. -/
theorem held_split3 (d : Dev nD) (W : Valuation τ sig (Elt F)) :
    (held (d : Thread nD τ) S0 W : sProp 𝕄) = iprop(((iLoc d ↦{fullShare} W (R main_v2)) ∗ (tLoc d ↦{fullShare} W (R main_arg1)) ∗ (oLoc d ↦{fullShare} W (R main_v3)))
      ∗ held (d : Thread nD τ) (S1 \ {R main_v3}) W) := by
  have hT : ({R main_v2, R main_arg1, R main_v3} : Finset (DevRef τ sig)) ⊆ S0 := by
    simp only [Finset.insert_subset_iff, Finset.singleton_subset_iff]
    exact ⟨mem_S0 _ rfl, mem_S0 _ rfl, mem_S0 _ rfl⟩
  have hS : S0 \ ({R main_v2, R main_arg1, R main_v3} : Finset (DevRef τ sig)) = S1 \ {R main_v3} := by
    unfold S1; ext b; simp only [Finset.mem_sdiff, Finset.mem_insert, Finset.mem_singleton, not_or]; tauto
  rw [held_sub_split _ hT, hS]
  congr 1
  unfold held
  rw [SparseCore.bigSep_insert' (by decide), SparseCore.bigSep_insert' (by decide), bigSep_singleton]

/-- The gathered array put back. -/
theorem held_Vc (d : Dev nD) :
    (held (d : Thread nD τ) S1 (Vc m d) : sProp 𝕄)
      = iprop((oLoc d ↦{fullShare} gath (tixOf m d) (tabOf m d)) ∗ held (d : Thread nD τ) (S1 \ {R main_v3}) (Vb m d)) := by
  rw [held_sub_split _ (Finset.singleton_subset_iff.mpr (mem_S1 main_v3 rfl (by decide) (by decide)))]
  refine congrArg₂ (fun a b : sProp 𝕄 => iprop(a ∗ b)) ?_ ?_
  · unfold held
    rw [bigSep_singleton]; unfold Vc; rw [Function.update_self]
  · refine held_congr _ fun b hb => ?_
    have : b ≠ R main_v3 := fun h => (Finset.mem_sdiff.mp hb).2 (Finset.mem_singleton.mpr h)
    unfold Vc; rw [Function.update_of_ne this]

/-- The pipeline's output put back. -/
theorem held_out (d : Dev nD) (o : Buf (Elt F) ((d : Thread nD τ).loc main_v19)) :
    (held (d : Thread nD τ) S1 (Function.update (Vd m d) (R main_v19) o) : sProp 𝕄)
      = iprop(held (d : Thread nD τ) (Pipeline.arrRefs spec1) (Function.update (Vd m d) (R main_v19) o) ∗ held (d : Thread nD τ) (S1 \ Pipeline.arrRefs spec1) (Vd m d)) := by
  rw [held_sub_split _ arr_sub]
  refine congrArg (fun b : sProp 𝕄 => iprop(_ ∗ b)) ?_
  refine held_congr _ fun b hb => ?_
  have : b ≠ R main_v19 := fun h => (Finset.mem_sdiff.mp hb).2 (h ▸ Finset.mem_map_of_mem _ (Finset.mem_image_of_mem _ (Finset.mem_univ (5 : Fin 6))))
  rw [Function.update_of_ne this]

/-! ## The launch's ghost state -/

/-- The handshakes' rounds, the pipeline's, and no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a TensorCore needs of it for its pipeline. -/
def G (d : Dev nD) : sProp 𝕄 :=
  iprop(Pipeline.cellsGhost (Pipeline.pin (pcfgs (F := F)) adm) EP 0 d ∗ Pipeline.toksInit (Pipeline.pin (pcfgs (F := F)) adm) EP 0 d)

theorem hu₀ (tix : (d : Dev nD) → Buf (Elt F) (iLoc d)) (tab : (d : Dev nD) → Buf (Elt F) (tLoc d)) (f₀ : (d : Dev nD) → Buf (Elt F) (oLoc d)) :
    (ownU (u₀ (F := F)) : sProp 𝕄)
      ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tix tab f₀).x q thr) := by
  unfold u₀
  iintro Hu
  ihave H := (ownU_triple _ _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]
    · iapply (Entails.of_eq (bigSep_congr fun c _ => (bigSep_singleton (i := (0 : Fin 1)) (Φ := fun p => Pipeline.cellsGhost (Pipeline.pin (pcfgs (F := F)) adm) EP p c)))); iexact Hg
    · iapply (Entails.of_eq (bigSep_congr fun c _ => (bigSep_singleton (i := (0 : Fin 1)) (Φ := fun p => (Pipeline.toksInit (Pipeline.pin (pcfgs (F := F)) adm) EP p c : sProp 𝕄))))); iexact Ht
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-! ## @main's run -/

/-- What @main leaves: the table's share, and the other arrays at the last valuation, the pipeline's output named
    unless the flag forgets it. -/
def FIN (fg : Bool) (d : Dev nD) : sProp 𝕄 :=
  iprop((tLoc d ↦{Transfers.shareDrop fullShare 2} tabOf m d)
    ∗ ∃ o : Buf (Elt F) ((d : Thread nD τ).loc main_v19), ⌜fg = false → o = out (Vd m) Bnd d⌝ ∗ held (d : Thread nD τ) S1 (Ve m d o))

theorem hmain [∀ e, Nonempty (Elt F e)] (fg : Bool) (hloc : fg = false → ColumnLocal F) (κ : GSem nD τ sig → ℕ) (d : Dev nD) :
    iprop((K (F := F)).ctx EH (P (tixOf m) (tabOf m) (oldOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m fg d ∗ (K (F := F)).tcEnd d) := by
  unfold SparseCore.Cfg.tcRes SparseCore.Cfg.tcEnd
  rw [unscoped_held, main_eq]
  iintro ⟨#Hctx, Hst, ⟨Hb, Hheld, Hts, -⟩, HG⟩
  -- the words are computed
  iapply (wp_seq 𝒱 none Set.univ d S0 _ opsA opsA_sub (by intro _ h; (repeat (cases h with | head => rfl | tail _ h => ?_)); exact nomatch h) (V0 m d)) $$ [Hb Hheld]
  · isplitl [Hb]; · iexact Hb
    iexact Hheld
  iintro ⟨Hb, Hheld⟩
  ihave Hh := (show (held (d : Thread nD τ) S0 (after opsA (V0 m d)) : sProp 𝕄) ⊢ _ from Entails.of_eq (held_split3 d (Vb m d))) $$ Hheld
  icases Hh with ⟨H3, Hrest⟩
  ihave H3' := (st_intro (tixOf m) (tabOf m) (oldOf m) d) $$ H3
  icases H3' with ⟨Hpay, Htab⟩
  -- the SparseCore call
  rw [wp_bind]
  iapply ((K (F := F)).wp_run (D (F := F)) 𝒱 (EH := EH) (P := P (tixOf m) (tabOf m) (oldOf m)) κ d 0) $$ [Hst Hpay Hb Hrest Htab Hts HG]
  isplitr; · iexact Hctx
  isplitl [Hst]; · iexact Hst
  isplitl [Hpay]; · iexact Hpay
  iintro ⟨Hst, Hdn⟩
  ihave Ho := (Entails.of_eq (dn_eq (tixOf m) (tabOf m) (oldOf m) d)) $$ Hdn
  ihave Hheld := (Entails.of_eq (held_Vc m d).symm) $$ [Ho Hrest]
  · isplitl [Ho]; · iexact Ho
    iexact Hrest
  -- the selection, the positions and the bias
  iapply (wp_seq 𝒱 none Set.univ d S1 _ opsB opsB_sub (by intro _ h; (repeat (cases h with | head => rfl | tail _ h => ?_)); exact nomatch h) (Vc m d)) $$ [Hb Hheld]
  · isplitl [Hb]; · iexact Hb
    iexact Hheld
  iintro ⟨Hb, Hheld⟩
  ihave Hh := (show (held (d : Thread nD τ) S1 (after opsB (Vc m d)) : sProp 𝕄) ⊢ _ from Entails.of_eq (held_sub_split _ arr_sub (Vd m d))) $$ Hheld
  icases Hh with ⟨Harr, Hrest⟩
  -- the pipeline
  rw [wp_bind]
  unfold SparseCore.Cfg.tcSt
  rw [show ((0 : Fin 1) : ℕ) + 1 = 1 from rfl, (K (F := F)).Otc_end d (le_refl 1)]
  icases Hst with ⟨⟨%W, %hW, HO⟩, Hst⟩
  unfold G
  icases HG with ⟨Hg, Ht⟩
  iapply (region_call (Vd m) Bnd fg hloc d _)
  isplitl [Hst Hts Htab Hrest]
  · iintro ⟨Hb, ⟨%o, %ho, Harr⟩, ⟨%W', %hW', HO⟩⟩
    ihave Hheld := (Entails.of_eq (held_out m d o).symm) $$ [Harr Hrest]
    · isplitl [Harr]; · iexact Harr
      iexact Hrest
    iapply (wp_seq 𝒱 none Set.univ d S1 _ opsC opsC_sub (by intro _ h; (repeat (cases h with | head => rfl | tail _ h => ?_)); exact nomatch h) (Function.update (Vd m d) (R main_v19) o)) $$ [Hb Hheld]
    · isplitl [Hb]; · iexact Hb
      iexact Hheld
    iintro ⟨Hb, Hheld⟩
    rw [wp_pure]; imodintro
    isplitl [HO Hst]
    · isplitl [HO]
      · iexists W'; isplitr
        · ipureintro; exact hW'
        iexact HO
      iexact Hst
    isplitl [Htab Hheld]
    · unfold FIN
      isplitl [Htab]; · iexact Htab
      iexists o; isplitr
      · ipureintro; exact ho
      iexact Hheld
    isplitl [Hb] <;> iassumption
  isplitl [Hb]; · iexact Hb
  isplitl [Harr HO]
  · isplitl [Harr]; · iexact Harr
    iexists W; isplitr
    · ipureintro; exact hW
    iexact HO
  isplitr
  · iapply (SparseCore.Cfg.ctx_levAts κ); iexact Hctx
  isplitl [Hg]; · iexact Hg
  iexact Ht

/-! ## What the run leaves in memory -/

/-- The final memory against a device's arrays: the table, and every other array at the last valuation. -/
def fq (fg : Bool) (d : Dev nD) (s' : Phys nD τ sig (Elt F)) : Prop :=
  s'.mem.mem (tLoc d) = tabOf m d
    ∧ ∃ o : Buf (Elt F) ((d : Thread nD τ).loc main_v19), (fg = false → o = out (Vd m) Bnd d) ∧ ∀ b ∈ S1, s'.mem.mem (d, b) = Ve m d o b

theorem hfin (fg : Bool) (d : Dev nD) (s' : Phys nD τ sig (Elt F)) : iprop(FIN m fg d ∗ SI s') ⊢ (⌜fq m fg d s'⌝ : sProp 𝕄) := by
  have h₁ : iprop(FIN m fg d ∗ SI s') ⊢ (⌜s'.mem.mem (tLoc d) = tabOf m d⌝ : sProp 𝕄) := by
    unfold FIN
    iintro ⟨⟨Ht, -⟩, HSI⟩
    ihave H := (SI_pointsTo_agree (st := s') (ℓ := tLoc d) (I := Finset.univ) (q := Transfers.shareDrop fullShare 2) (f := tabOf m d)) $$ [HSI Ht]
    · isplitl [HSI] <;> iassumption
    icases H with %hx
    ipureintro; exact funext fun i => hx i (Finset.mem_univ i)
  have h₂ : iprop(FIN m fg d ∗ SI s') ⊢ (⌜∃ o : Buf (Elt F) ((d : Thread nD τ).loc main_v19),
      (fg = false → o = out (Vd m) Bnd d) ∧ ∀ b ∈ S1, s'.mem.mem (d, b) = Ve m d o b⌝ : sProp 𝕄) := by
    unfold FIN held
    iintro ⟨⟨-, %o, %ho, H⟩, HSI⟩
    ihave %h := (SI_pointsTo_bufs_agree (qs := fun _ => fullShare) S1) $$ [HSI H]
    · isplitl [HSI]; · iexact HSI
      iexact H
    ipureintro
    exact ⟨o, ho, h⟩
  exact (Laws.and_intro h₁ h₂).trans (pure_and (PROP := sProp 𝕄)).1

/-- Every device's final arrays, and every counter back at zero. -/
def QC (fg : Bool) : PUnit × MemSt nD τ sig (Elt F) → Prop := fun r =>
  (∀ d : Dev nD, r.2.mem (tLoc d) = tabOf m d
    ∧ ∃ o : Buf (Elt F) ((d : Thread nD τ).loc main_v19), (fg = false → o = out (Vd m) Bnd d) ∧ ∀ b ∈ S1, r.2.mem (d, b) = Ve m d o b)
  ∧ r.2.sem = fun _ => 0

/-- The whole program's run, the call's words being such that every copy's source lies in the table. -/
theorem run_whole [∀ e, Nonempty (Elt F e)] (fg : Bool) (hloc : fg = false → ColumnLocal F) (hchk : ∀ d j, k0_chk1 (tixOf m d j)) :
    θ_run (Cert.KernelIdeal.defs (F := F)) (Cert.KernelIdeal.threads (F := F)) ⟨m, fun _ => 0, ρ⟩ (QC m fg) :=
  SparseCore.Cfg.θ_run_sc_quiescent (K := K (F := F)) (D := D (F := F)) (𝒱 := 𝒱) (EH := EH) (P := P (tixOf m) (tabOf m) (oldOf m)) (A := ∅) facts v₀
    (fun q _ => match q with | 0 => scalarObl (tixOf m) (tabOf m) (oldOf m) hchk)
    (fun q hq => match q with | 0 => nomatch hq)
    (fun q hq => match q with | 0 => nomatch hq)
    m ρ main (G (F := F)) (FIN m fg) (u₀ (F := F)) (sep_elim_left.trans (hu₀ (tixOf m) (tabOf m) (oldOf m))) (hmain m ρ fg hloc) (fq m fg) (hfin m fg) (QC m fg) (fun _ h hz => ⟨h, hz⟩)

end Cert.Proof

end
-- ==== Proof.Words.lean ====
/-
  What the precondition says of the tokens, and the words the SparseCore call reads: each token lies in the vocabulary, so
  eight times its word, rounded down to a multiple of eight, is the first of eight rows of the table.
-/
module

public import proofs.«01_k».proof.Proof.Main
public import proofs.«01_k».proof.Proof.Gen.Pre_in_vocab
public import Idealize.ShloMosaic.Lib.ReduceAll
public import Idealize.ShloMosaic.Lib.WordCmp
public import Idealize.ShloMosaic.Lib.Pointwise
public import Idealize.ShloMosaic.Lib.StableHlo.ReadAt
public import Idealize.ShloMosaic.Lib.Tactic.WordOmega

@[expose] public section

noncomputable section

namespace Cert.Proof

open Cert.KernelIdeal Cert.KernelIdeal.Gen

open Idealize.ShloMosaic
open Idealize.ShloMosaic.TcCoe
open Idealize.ShloMosaic.StableHlo (after)

variable {F : FTy → Type} [FloatOps F]

/-- The precondition: every token is a row of the vocabulary. -/
theorem vocab_of_pre (a0 : IVec Cert.Pre_in_vocab.S32x8 32) (a1 : FVec F Cert.Pre_in_vocab.S100000x64 .f32) (a2 : FVec F Cert.Pre_in_vocab.S2048x64 .f32) (a3 : FVec F Cert.Pre_in_vocab.S64x100000 .f32)
    (a4 : FVec F Cert.Pre_in_vocab.S100000 .f32) (h : Cert.Pre_in_vocab.fn (F := F) a0 a1 a2 a3 a4 = fun _ => 1#1) (i : Cert.Pre_in_vocab.S32x8.Idx) :
    (a0 i).toNat < 100000 := by
  have h0 := congrFun h (fun a => a.elim0)
  dsimp only [Cert.Pre_in_vocab.fn] at h0
  haveI : Subsingleton Cert.Pre_in_vocab.S_.Idx := ⟨fun x y => funext fun a => a.elim0⟩
  have h1 := Host.reduce_andi_all _ _ _ _ _ h0 i
  clear h0 h
  revert h1
  pointwise
  intro h1
  word_omega

variable (m : (ℓ : Loc nD τ sig) → Buf (Elt F) ℓ)

/-- The shifted word of a token in the vocabulary. -/
theorem shift_toNat (w : BitVec 32) (hw : w.toNat < 100000) : (IntOp.shrsi ArithUnit.host w 3#32).toNat = w.toNat / 8 := by
  have h : IntOp.shrsi ArithUnit.host w 3#32 = w.sshiftRight 3 := rfl
  rw [h, BitVec.sshiftRight_eq_of_msb_false (by rw [BitVec.msb_eq_decide]; simp; omega), BitVec.toNat_ushiftRight, Nat.shiftRight_eq_div_pow]

/-- The token of row `n`: tokens in a row, eight to a batch. -/
abbrev tokenOf (d : Dev nD) (n : Fin 256) : BitVec 32 :=
  m ((d : Thread nD τ).loc main_arg0) (ix2 ⟨n.val / 8, by omega⟩ ⟨n.val % 8, by omega⟩)

/-- The call's word of row `n`: the token shifted right by three. -/
theorem tix_at (d : Dev nD) (n : Fin 256) : tixOf m d (ix1 n) = IntOp.shrsi ArithUnit.host (tokenOf m d n) 3#32 := by
  unfold tixOf Vb opsA R
  after_reads_at
  rfl

theorem off_toNat (v : BitVec 32) (hv : v.toNat < 12500) : k0_off4 v 0 = 8 * v.toNat := by
  show (v * 8#32).toNat = _
  rw [BitVec.toNat_mul]
  have : (8#32 : BitVec 32).toNat = 8 := rfl
  rw [this]; omega

/-- A word below an eighth of the vocabulary names eight whole rows of the table. -/
theorem chk_of_lt (v : BitVec 32) (hv : v.toNat < 12500) : k0_chk1 v := by
  have h := off_toNat v hv
  refine ⟨?_, fun a => ?_⟩
  · show 8 ∣ k0_off4 v 0
    rw [h]; exact Dvd.intro _ rfl
  · match a with
    | 0 => show k0_off4 v 0 + 8 ≤ 100000; rw [h]; omega
    | 1 => show 0 + 64 ≤ 64; omega

/-- Every word of the call passes the kernel's check. -/
theorem hchk (hv : ∀ (d : Dev nD) i, (m ((d : Thread nD τ).loc main_arg0) i : BitVec 32).toNat < 100000) (d : Dev nD) (j : S256.Idx) : k0_chk1 (tixOf m d j) := by
  have hj : tixOf m d j = _ := (congrArg (tixOf m d) (eq_ix1 j)).trans (tix_at m d (j 0))
  rw [hj]
  refine chk_of_lt _ ?_
  rw [shift_toNat _ (hv d _)]
  have h := hv d (ix2 ⟨(j 0).val / 8, by have : (j 0).val < 256 := (j 0).isLt; omega⟩ ⟨(j 0).val % 8, by omega⟩)
  exact (Nat.div_lt_iff_lt_mul (by decide)).2 h

/-! ## The arguments -/

/-- The table as the call reads it is the argument. -/
theorem tab_eq (d : Dev nD) : tabOf m d = m (tLoc d) := by
  unfold tabOf Vb
  rw [StableHlo.after_of_writes_sub (W := [main_v0, main_c, main_v1, main_v2]) opsA _ (StableHlo.forall_writes_sub_of_map rfl) (by decide)]
  rfl

/-- An array neither the words' operations nor the gather write is, after the gather, as at the start. -/
theorem Vc_arg (d : Dev nD) (b : Ref sig .tc) (hA : b ∉ [main_v0, main_c, main_v1, main_v2]) (h3 : b ≠ main_v3) :
    Vc m d (R b) = m ((d : Thread nD τ).loc b) := by
  unfold Vc
  rw [Function.update_of_ne (fun h => h3 (Proc.devRef_injective _ h))]
  unfold Vb
  rw [StableHlo.after_of_writes_sub (W := [main_v0, main_c, main_v1, main_v2]) opsA _ (StableHlo.forall_writes_sub_of_map rfl) hA]
  rfl

/-- An array the operations between the calls do not write either is, before the pipelined call, as at the start. -/
theorem Vd_arg (d : Dev nD) (b : Ref sig .tc) (hA : b ∉ [main_v0, main_c, main_v1, main_v2]) (h3 : b ≠ main_v3)
    (hB : b ∉ [main_v4, main_c_0, main_v5, main_v6, main_v7, main_v8, main_v9, main_v10, main_v11, main_v12, main_v13, main_v14, main_v15, main_v16, main_v17, main_v18]) :
    Vd m d (R b) = m ((d : Thread nD τ).loc b) := by
  unfold Vd
  rw [StableHlo.after_of_writes_sub (W := [main_v4, main_c_0, main_v5, main_v6, main_v7, main_v8, main_v9, main_v10, main_v11, main_v12, main_v13, main_v14, main_v15, main_v16, main_v17, main_v18]) opsB _
    (StableHlo.forall_writes_sub_of_map rfl) hB]
  exact Vc_arg m d b hA h3

/-- An array nothing writes ends as it began. -/
theorem Ve_arg (d : Dev nD) (o : Buf (Elt F) ((d : Thread nD τ).loc main_v19)) (b : Ref sig .tc)
    (hA : b ∉ [main_v0, main_c, main_v1, main_v2]) (h3 : b ≠ main_v3)
    (hB : b ∉ [main_v4, main_c_0, main_v5, main_v6, main_v7, main_v8, main_v9, main_v10, main_v11, main_v12, main_v13, main_v14, main_v15, main_v16, main_v17, main_v18])
    (h19 : b ≠ main_v19) (h20 : b ∉ [main_v20]) :
    Ve m d o (R b) = m ((d : Thread nD τ).loc b) := by
  unfold Ve
  rw [StableHlo.after_of_writes_sub (W := [main_v20]) opsC _ (StableHlo.forall_writes_sub_of_map rfl) h20,
    Function.update_of_ne (fun h => h19 (Proc.devRef_injective _ h))]
  exact Vd_arg m d b hA h3 hB

/-- What every run of the kernel's program ends with: the arguments unchanged, the result a reshape of what the pipeline
    left (named unless the flag forgets it), and every counter at zero. -/
theorem run_main [∀ e, Nonempty (Elt F e)] (ρ : Dev nD → PrngReg) (fg : Bool) (hloc : fg = false → ColumnLocal F)
    (hv : ∀ (d : Dev nD) i, (m ((d : Thread nD τ).loc main_arg0) i : BitVec 32).toNat < 100000) :
    θ_run (Cert.KernelIdeal.defs (F := F)) (Cert.KernelIdeal.threads (F := F)) ⟨m, fun _ => 0, ρ⟩ fun r =>
      (∀ d : Dev nD, (r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)
        ∧ r.2.mem ((d : Thread nD τ).loc main_arg3) = m ((d : Thread nD τ).loc main_arg3)
        ∧ r.2.mem ((d : Thread nD τ).loc main_arg4) = m ((d : Thread nD τ).loc main_arg4))
        ∧ ∃ o : Buf (Elt F) ((d : Thread nD τ).loc main_v19), (fg = false → o = out (Vd m) Bnd d)
            ∧ r.2.mem ((d : Thread nD τ).loc main_v20) = Ve m d o (R main_v20))
      ∧ r.2.sem = fun _ => 0 := by
  refine (θ_run _ _ _).mono (fun r h => ⟨fun d => ?_, h.2⟩) (run_whole m ρ fg hloc (hchk m hv))
  obtain ⟨ht, o, ho, hb⟩ := h.1 d
  refine ⟨⟨?_, ht.trans (tab_eq m d), ?_, ?_, ?_⟩, o, ho, hb _ (mem_S1 _ rfl (by decide) (by decide))⟩
  · exact (hb (R main_arg0) (mem_S1 _ rfl (by decide) (by decide))).trans (Ve_arg m d o _ (by decide) (by decide) (by decide) (by decide) (by decide))
  · exact (hb (R main_arg2) (mem_S1 _ rfl (by decide) (by decide))).trans (Ve_arg m d o _ (by decide) (by decide) (by decide) (by decide) (by decide))
  · exact (hb (R main_arg3) (mem_S1 _ rfl (by decide) (by decide))).trans (Ve_arg m d o _ (by decide) (by decide) (by decide) (by decide) (by decide))
  · exact (hb (R main_arg4) (mem_S1 _ rfl (by decide) (by decide))).trans (Ve_arg m d o _ (by decide) (by decide) (by decide) (by decide) (by decide))

/-- The frame over any float values: the run above with the value dropped. -/
theorem run_frame [∀ e, Nonempty (Elt F e)] (ρ : Dev nD → PrngReg)
    (hv : ∀ (d : Dev nD) i, (m ((d : Thread nD τ).loc main_arg0) i : BitVec 32).toNat < 100000) :
    θ_run (Cert.KernelIdeal.defs (F := F)) (Cert.KernelIdeal.threads (F := F)) ⟨m, fun _ => 0, ρ⟩ fun r =>
      (∀ d : Dev nD, r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)
        ∧ r.2.mem ((d : Thread nD τ).loc main_arg3) = m ((d : Thread nD τ).loc main_arg3)
        ∧ r.2.mem ((d : Thread nD τ).loc main_arg4) = m ((d : Thread nD τ).loc main_arg4))
      ∧ r.2.sem = fun _ => 0 :=
  (θ_run _ _ _).mono (fun _ h => ⟨fun d => (h.1 d).1, h.2⟩) (run_main m ρ true (by simp) hv)

end Cert.Proof

end
-- ==== Proof.Frames.lean ====
/-
  The frames: each program runs from every memory, ends with its arguments unchanged and every counter at zero.
-/
module

public import proofs.«01_k».proof.Proof.Words
public import proofs.«01_k».proof.Proof.Gen.ReferenceIdeal.Run
public import proofs.«01_k».proof.Proof.Gen.Kernel
public import proofs.«01_k».proof.Defs

@[expose] public section

noncomputable section

namespace Cert.Proof

open Idealize.ShloMosaic Idealize.SL.Sem

attribute [local instance] Cert.Kernel.Gen.facts Cert.ReferenceIdeal.Gen.facts Cert.Pre_in_vocab.Gen.facts

/-- The two programs print the same body at each label, on each processor. -/
theorem defs₀_eq : Cert.Kernel.defs₀ (F := Bits) = Cert.KernelIdeal.defs₀ (F := Bits) := by
  funext p ℓ a
  match p, ℓ, a with
  | .scScalar c, ⟨0, _⟩, _ => rfl
  | .scScalar c, ⟨1, _⟩, _ => rfl
  | .tc, ⟨0, _⟩, _ => rfl
  | .tc, ⟨1, _⟩, (t, s) => rfl
  | .scVector _ _, ⟨0, _⟩, _ => rfl
  | .scVector _ _, ⟨1, _⟩, _ => rfl

/-- So they have the same definitions. -/
theorem defs_eq : Cert.Kernel.defs (F := Bits) = Cert.KernelIdeal.defs (F := Bits) := by
  unfold Cert.Kernel.defs
  rw [defs₀_eq]
  rfl

/-- The kernel's program on words: it runs, its arguments end unchanged, its counters at zero. -/
theorem frame_kernel : Cert.quiescent_Kernel := by
  intro m g hp
  rw [defs_eq]
  exact run_frame (F := Bits) m g fun d i => vocab_of_pre _ _ _ _ _ (hp d) i

/-- The kernel's program on extended reals: the same run. -/
theorem frame_ideal : Cert.quiescent_KernelIdeal (hKernelIdeal := Cert.KernelIdeal.Gen.facts) := by
  intro m g hp
  exact run_frame (F := Ideal) m g fun d i => vocab_of_pre _ _ _ _ _ (hp d) i

/-- The reference on extended reals: it runs from every memory. -/
theorem frame_reference : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- In particular from those whose tokens lie in the vocabulary. -/
theorem frame_reference_pre : Cert.quiescent_ReferenceIdeal_pre_in_vocab := fun m g _ =>
  (θ_run _ _ _).mono (fun r h => ⟨fun c => (h c).2, Idealize.ShloMosaic.sem_eq_zero_of_no_sems (by decide) r.2⟩)
    (Cert.ReferenceIdeal.Value.run m g)

end Cert.Proof

end
-- ==== Proof.Block.lean ====
/-
  What one block computes, on extended reals: the embedding of a row is the one selected row of its group of eight plus
  its position's row, and a column of the output block is the product of the embeddings with that column, plus the bias.
-/
module

public import proofs.«01_k».proof.Proof.Words

@[expose] public section

noncomputable section

namespace Cert.Proof

open Cert.KernelIdeal Cert.KernelIdeal.Gen

open Idealize.ShloMosaic
open Idealize.ShloMosaic.TcCoe
open Idealize.ShloMosaic.StableHlo (after)

/-- An entry of the output block: the row of embeddings against the column, plus the column's bias. -/
theorem pay2_at (x : Vec Ideal S256x64 .f32) (W : Vec Ideal S64x16384 .f32) (b : Vec Ideal S1x16384 .f32) (n : Fin 256) (v : Fin 16384) :
    k1_pay2 x W b (ix2 n v) = (∑ j : Fin 64, (x (ix2 n j) * W (ix2 j v) : EReal)) + (b (ix2 0 v) : EReal) := by
  unfold k1_pay2
  pointwise

/-- The embedding before the position is added: the group's rows weighted by the selection. -/
theorem pay1_at (g : Vec Ideal S256x8x64 .f32) (s : Vec Ideal S256x8x1 .f32) (p : Vec Ideal S256x64 .f32) (n : Fin 256) (j : Fin 64) :
    k1_pay1 g s p (ix2 n j) = (∑ r : Fin 8, (g (ix3 n r j) * s (ix3 n r 0) : EReal)) + (p (ix2 n j) : EReal) := by
  unfold k1_pay1
  pointwise

end Cert.Proof

end
-- ==== Proof.Arrays.lean ====
/-
  What the arrays hold when the pipelined call begins: the gathered groups of rows, the selection within each group, the
  positions' rows and the bias.
-/
module

public import proofs.«01_k».proof.Proof.Block

@[expose] public section

noncomputable section

namespace Cert.Proof

open Cert.KernelIdeal Cert.KernelIdeal.Gen

open Idealize.ShloMosaic
open Idealize.ShloMosaic.TcCoe
open Idealize.ShloMosaic.StableHlo (after)

variable (m : (ℓ : Loc nD τ sig) → Buf (Elt Ideal) ℓ)

/-- The tokens in a row, after the gather. -/
theorem flat_at (d : Dev nD) (n : Fin 256) : Vc m d (R main_v0) (ix1 n) = tokenOf m d n := by
  unfold Vc
  rw [Function.update_of_ne (fun h => absurd (Proc.devRef_injective _ h) (by decide))]
  unfold Vb opsA R
  after_reads_at
  rfl

/-- The comparison of a token's last three bits with a row's number, as a number. -/
theorem sel_word (w : BitVec 32) (r : Fin 8) :
    FloatOps.uitofp (F := Ideal) FTy.f32 (IntOp.cmpi CmpIPredicate.eq (IntOp.andi w 7#32) (BitVec.ofNat 32 r.val))
      = (if w.toNat % 8 = r.val then (1 : EReal) else 0) := by
  have h7 : IntOp.andi w 7#32 = BitVec.ofNat 32 (w.toNat % 8) := by
    refine BitVec.eq_of_toNat_eq ?_
    show (w &&& 7#32).toNat = _
    rw [BitVec.toNat_and, BitVec.toNat_ofNat, BitVec.toNat_ofNat]
    rw [show 7 % 2 ^ 32 = 2 ^ 3 - 1 from rfl, Nat.and_two_pow_sub_one_eq_mod]
    omega
  rw [h7]
  have hc : IntOp.cmpi CmpIPredicate.eq (BitVec.ofNat 32 (w.toNat % 8)) (BitVec.ofNat 32 r.val) = if w.toNat % 8 = r.val then 1#1 else 0#1 := by
    have hr := r.isLt
    have hw : w.toNat % 8 < 8 := Nat.mod_lt _ (by decide)
    generalize w.toNat % 8 = k at hw ⊢
    generalize r.val = q at hr ⊢
    interval_cases k <;> interval_cases q <;> rfl
  rw [hc]
  split
  · show (((1#1).toNat : ℝ) : EReal) = 1
    simp
  · show (((0#1).toNat : ℝ) : EReal) = 0
    simp

/-- The selection: one where the token's last three bits are the row's number, zero elsewhere. -/
theorem sel_at (d : Dev nD) (n : Fin 256) (r : Fin 8) (z : Fin 1) :
    Vd m d (R main_v13) (ix3 n r z) = (if (tokenOf m d n).toNat % 8 = r.val then (1 : EReal) else 0) := by
  unfold Vd opsB R
  after_reads_at
  rw [show Vc m d (Proc.tc.devRef main_v0) (ix1 n) = tokenOf m d n from flat_at m d n]
  exact sel_word (tokenOf m d n) r

/-- The positions' rows, repeated for each batch. -/
theorem pos_at (d : Dev nD) (n : Fin 256) (j : Fin 64) :
    Vd m d (R main_v17) (ix2 n j) = m ((d : Thread nD τ).loc main_arg2) (ix2 ⟨n.val % 8, by omega⟩ j) := by
  unfold Vd opsB R
  after_reads_at
  exact congrFun (Vc_arg m d main_arg2 (by decide) (by decide)) _

/-- The bias, as a row. -/
theorem bias_at (d : Dev nD) (z : Fin 1) (v : Fin 100000) :
    Vd m d (R main_v18) (ix2 z v) = m ((d : Thread nD τ).loc main_arg4) (ix1 v) := by
  unfold Vd opsB R
  after_reads_at
  exact congrFun (Vc_arg m d main_arg4 (by decide) (by decide)) _

/-- The matrix, unchanged. -/
theorem mat_eq (d : Dev nD) : Vd m d (R main_arg3) = m ((d : Thread nD τ).loc main_arg3) := by
  exact Vd_arg m d main_arg3 (by decide) (by decide) (by decide)

/-- The gathered groups: row `r` of group `n` is the table's row `r` of the group the token lies in. -/
theorem rows_at (hv : ∀ (d : Dev nD) i, (m ((d : Thread nD τ).loc main_arg0) i : BitVec 32).toNat < 100000)
    (d : Dev nD) (n : Fin 256) (r : Fin 8) (j : Fin 64) (k : Fin 100000) (hk : k.val = 8 * ((tokenOf m d n).toNat / 8) + r.val) :
    Vd m d (R main_v3) (ix3 n r j) = m (tLoc d) (ix2 k j) := by
  rw [show Vd m d (R main_v3) = Vc m d (R main_v3) from by
    unfold Vd
    exact StableHlo.after_of_writes_sub (W := [main_v4, main_c_0, main_v5, main_v6, main_v7, main_v8, main_v9, main_v10, main_v11, main_v12, main_v13, main_v14, main_v15, main_v16, main_v17, main_v18]) opsB _
      (StableHlo.forall_writes_sub_of_map rfl) (by decide)]
  unfold Vc
  rw [Function.update_self, tab_eq]
  have hw : (tokenOf m d n).toNat < 100000 := hv d _
  have ht : tixOf m d (ix1 n) = _ := tix_at m d n
  have hs := shift_toNat (tokenOf m d n) hw
  refine congrArg (m (tLoc d)) ?_
  have hr : rowOf (tixOf m d (ix1 n)) r.val = k := by
    refine Fin.ext ?_
    show (k0_off4 (tixOf m d (ix1 n)) 0 + r.val) % 100000 = k.val
    rw [ht, off_toNat _ (by rw [hs]; omega), hs, ← hk]
    exact Nat.mod_eq_of_lt k.isLt
  funext a
  match a with
  | ⟨0, _⟩ => exact hr
  | ⟨1, _⟩ => rfl

end Cert.Proof

end
-- ==== Proof.Blocks.lean ====
/-
  The pipelined call on extended reals: the blocks it reads, in terms of its arrays, and the array it leaves. Each column
  of the result lies in one block, so the seven write-backs together leave the product at every row and column.
-/
module

public import proofs.«01_k».proof.Proof.Arrays
public import Idealize.ShloMosaic.Lib.Pipeline.ValueKit

@[expose] public section

set_option maxRecDepth 16384

noncomputable section

namespace Cert.Proof

open Cert.KernelIdeal Cert.KernelIdeal.Gen

open Idealize.ShloMosaic
open Idealize.ShloMosaic.TcCoe
open Idealize.ShloMosaic.StableHlo (after)

variable (V : (c : Dev nD) → Valuation τ sig (Elt Ideal))

/-- The block index of each window at each point. -/
theorem index0 : ∀ t : Fin grid1.N, win1_0.index t = ![0, 0, 0] := by decide +kernel
theorem index1 : ∀ t : Fin grid1.N, win1_1.index t = ![0, 0, 0] := by decide +kernel
theorem index2 : ∀ t : Fin grid1.N, win1_2.index t = ![0, 0] := by decide +kernel
theorem index3 : ∀ t : Fin grid1.N, win1_3.index t = ![0, t.val] := by decide +kernel
theorem index4 : ∀ t : Fin grid1.N, win1_4.index t = ![0, t.val] := by decide +kernel
theorem index5 : ∀ t : Fin grid1.N, win1_5.index t = ![0, t.val] := by decide +kernel

/-- The first window is the whole array of gathered groups, -/
theorem blk0_at (c : Dev nD) (t : Fin cfg1.N) (n : Fin 256) (r : Fin 8) (j : Fin 64) : blk0 V c t (ix3 n r j) = V c (R main_v3) (ix3 n r j) := by
  refine congrArg (V c (R main_v3)) ?_
  blk_ext [index0]

/-- the second the whole selection, -/
theorem blk1_at (c : Dev nD) (t : Fin cfg1.N) (n : Fin 256) (r : Fin 8) (z : Fin 1) : blk1 V c t (ix3 n r z) = V c (R main_v13) (ix3 n r z) := by
  refine congrArg (V c (R main_v13)) ?_
  blk_ext [index1]

/-- the third the positions' rows. -/
theorem blk2_at (c : Dev nD) (t : Fin cfg1.N) (n : Fin 256) (j : Fin 64) : blk2 V c t (ix2 n j) = V c (R main_v17) (ix2 n j) := by
  refine congrArg (V c (R main_v17)) ?_
  blk_ext [index2]

/-- A column of the matrix's block, where the block lies inside the array, is a column of the matrix. -/
theorem blk3_at (c : Dev nD) (t : Fin cfg1.N) (j : Fin 64) (y : Fin 16384) (v : Fin 100000) (hv : v.val = t.val * 16384 + y.val) :
    blk3 V c t (ix2 j y) = V c (R main_arg3) (ix2 j v) := by
  have hx : win1_3.xsize (grid1.coords t) 0 = 64 ∧ win1_3.xsize (grid1.coords t) 1 = min 16384 (100000 - t.val * 16384) := by
    rcases fin_N1 t with rfl | rfl | rfl | rfl | rfl | rfl | rfl <;> decide +kernel
  have hm : win1_3.moved (grid1.coords t) (ix2 j y) = true :=
    (win1_3.moved_iff _ _).mpr fun a => by
      match a with
      | ⟨0, _⟩ => exact lt_of_lt_of_eq j.isLt hx.1.symm
      | ⟨1, _⟩ => refine lt_of_lt_of_eq (b := min 16384 (100000 - t.val * 16384)) ?_ hx.2.symm; show y.val < _; have := y.isLt; have := v.isLt; omega
  unfold blk3 Pipeline.Window.fill
  rw [dif_pos hm]
  refine congrArg (V c (R main_arg3)) ?_
  blk_ext [index3]

/-- An entry of the bias's block likewise. -/
theorem blk4_at (c : Dev nD) (t : Fin cfg1.N) (z : Fin 1) (y : Fin 16384) (v : Fin 100000) (hv : v.val = t.val * 16384 + y.val) :
    blk4 V c t (ix2 z y) = V c (R main_v18) (ix2 z v) := by
  have hx : win1_4.xsize (grid1.coords t) 0 = 1 ∧ win1_4.xsize (grid1.coords t) 1 = min 16384 (100000 - t.val * 16384) := by
    rcases fin_N1 t with rfl | rfl | rfl | rfl | rfl | rfl | rfl <;> decide +kernel
  have hm : win1_4.moved (grid1.coords t) (ix2 z y) = true :=
    (win1_4.moved_iff _ _).mpr fun a => by
      match a with
      | ⟨0, _⟩ => exact lt_of_lt_of_eq z.isLt hx.1.symm
      | ⟨1, _⟩ => refine lt_of_lt_of_eq (b := min 16384 (100000 - t.val * 16384)) ?_ hx.2.symm; show y.val < _; have := y.isLt; have := v.isLt; omega
  unfold blk4 Pipeline.Window.fill
  rw [dif_pos hm]
  refine congrArg (V c (R main_v18)) ?_
  blk_ext [index4]

/-- The arrays, by their shapes. -/
abbrev groups (c : Dev nD) : Vec Ideal S256x8x64 .f32 := V c (R main_v3)
abbrev selection (c : Dev nD) : Vec Ideal S256x8x1 .f32 := V c (R main_v13)
abbrev positions (c : Dev nD) : Vec Ideal S256x64 .f32 := V c (R main_v17)
abbrev matrix (c : Dev nD) : Vec Ideal S64x100000 .f32 := V c (R main_arg3)
abbrev bias (c : Dev nD) : Vec Ideal S1x100000 .f32 := V c (R main_v18)

/-- The array the call leaves: every row of embeddings against every column of the matrix, plus the bias. -/
def product (c : Dev nD) : Buf (Elt Ideal) ((c : Thread nD τ).loc main_v19) := fun i =>
  ((∑ j : Fin 64, (emb V c (ix2 (i 0) j) * matrix V c (ix2 j (i 1)) : EReal)) + (bias V c (ix2 0 (i 1)) : EReal) : EReal)

/-- The seven write-backs leave it. -/
theorem out_eq (B : ℕ) (c : Dev nD) : out V B c = product V c := by
  unfold out
  refine (dat V B c).arrAt_eq_of_covers (5 : Fin 6) _ (by decide +kernel) fun t _ y => ?_
  blk_simp
  have h0 : (((win1_5.blk t).view.emb y) 0 : Nat) = (y 0 : Nat) := by blk_simp [index5]
  have h1 : (((win1_5.blk t).view.emb y) 1 : Nat) = t.val * 16384 + (y 1 : Nat) := by blk_simp [index5]
  generalize hi : (win1_5.blk t).view.emb y = i at h0 h1
  obtain ⟨n, v, rfl⟩ : ∃ (n : Fin 256) (v : Fin 100000), i = ix2 n v := ⟨i 0, i 1, (ix2_eta i).symm⟩
  obtain ⟨q, hq⟩ : ∃ q : Fin 16384, q.val = (y 1 : Nat) := ⟨win1_5.xinj (grid1.coords t) y 1, rfl⟩
  rw [← hq] at h1
  have hx : win1_5.xinj (grid1.coords t) y = ix2 n q := by
    funext a
    match a with
    | ⟨0, _⟩ => exact Fin.ext h0.symm
    | ⟨1, _⟩ => exact Fin.ext hq.symm
  show k1_pay2 (emb V c) (blk3 V c t) (blk4 V c t) (win1_5.xinj (grid1.coords t) y) = product V c (ix2 n v)
  rw [show win1_5.xinj (grid1.coords t) y = (ix2 n q : S256x16384.Idx) from hx, pay2_at]
  show _ = (∑ j : Fin 64, (emb V c (ix2 n j) * matrix V c (ix2 j v) : EReal)) + (bias V c (ix2 0 v) : EReal)
  rw [blk4_at V c t 0 _ v h1]
  refine congrArg (· + _) (Finset.sum_congr rfl fun j _ => ?_)
  rw [blk3_at V c t j _ v h1]

/-- The embeddings, from the arrays: each row's group weighted by its selection, plus its position's row. -/
theorem emb_at (c : Dev nD) (n : Fin 256) (j : Fin 64) :
    emb V c (ix2 n j) = (∑ r : Fin 8, (groups V c (ix3 n r j) * selection V c (ix3 n r 0) : EReal)) + (positions V c (ix2 n j) : EReal) := by
  unfold emb
  rw [pay1_at, blk2_at]
  refine congrArg (· + _) (Finset.sum_congr rfl fun r _ => ?_)
  rw [blk0_at, blk1_at]

/-- A column of a block needs only that column of its operands. -/
theorem columnLocal : ColumnLocal Ideal := by
  intro x W W' b b' y hW hb
  obtain ⟨n, v, rfl⟩ : ∃ n v, y = ix2 n v := ⟨y 0, y 1, (ix2_eta y).symm⟩
  rw [pay2_at, pay2_at]
  have hb' : b (ix2 0 v) = b' (ix2 0 v) := hb
  rw [hb']
  refine congrArg (· + _) (Finset.sum_congr rfl fun j _ => ?_)
  rw [show W (ix2 j v) = W' (ix2 j v) from hW j]

end Cert.Proof

end
-- ==== Proof.Result.lean ====
/-
  What the kernel computes on extended reals: at batch `b`, position `t` and word `v`, the sum over the channels of the
  token's row plus the position's row, times the matrix's column, plus the bias.
-/
module

public import proofs.«01_k».proof.Proof.Blocks

@[expose] public section

set_option maxRecDepth 16384

noncomputable section

namespace Cert.Proof

open Cert.KernelIdeal Cert.KernelIdeal.Gen

open Idealize.ShloMosaic
open Idealize.ShloMosaic.TcCoe
open Idealize.ShloMosaic.StableHlo (after)

variable (m : (ℓ : Loc nD τ sig) → Buf (Elt Ideal) ℓ)

/-- The logits: a token's row plus its position's row, against the matrix, plus the bias. -/
def logits (idx : Vec Ideal S32x8 .i32) (tok : Vec Ideal S100000x64 .f32) (pos : Vec Ideal S2048x64 .f32)
    (W : Vec Ideal S64x100000 .f32) (b : Vec Ideal S100000 .f32) : Vec Ideal S32x8x100000 .f32 := fun i =>
  ((∑ j : Fin 64, (((tok (ix2 ⟨(idx (ix2 (i 0) (i 1))).toNat % 100000, Nat.mod_lt _ (by decide)⟩ j) : EReal)
      + (pos (ix2 ⟨(i 1).val, lt_trans (show (i 1).val < 8 from (i 1).isLt) (by decide)⟩ j) : EReal)) * (W (ix2 j (i 2)) : EReal) : EReal)) + (b (ix1 (i 2)) : EReal) : EReal)

variable (hv : ∀ (d : Dev nD) i, (m ((d : Thread nD τ).loc main_arg0) i : BitVec 32).toNat < 100000)
include hv

/-- The weighted group is the token's own row: seven weights are zero, and zero times anything is zero. -/
theorem group_eq (d : Dev nD) (n : Fin 256) (j : Fin 64) :
    (∑ r : Fin 8, (groups (Vd m) d (ix3 n r j) * selection (Vd m) d (ix3 n r 0) : EReal))
      = m (tLoc d) (ix2 ⟨(tokenOf m d n).toNat, hv d _⟩ j) := by
  have hw : (tokenOf m d n).toNat < 100000 := hv d _
  rw [Finset.sum_eq_single (⟨(tokenOf m d n).toNat % 8, Nat.mod_lt _ (by decide)⟩ : Fin 8)]
  · rw [show selection (Vd m) d (ix3 n ⟨(tokenOf m d n).toNat % 8, Nat.mod_lt _ (by decide)⟩ 0) = _ from sel_at m d n _ 0, if_pos rfl, mul_one]
    exact rows_at m hv d n _ j ⟨(tokenOf m d n).toNat, hw⟩ (by show (tokenOf m d n).toNat = 8 * ((tokenOf m d n).toNat / 8) + (tokenOf m d n).toNat % 8; omega)
  · intro r _ hr
    rw [show selection (Vd m) d (ix3 n r 0) = _ from sel_at m d n r 0, if_neg (fun h => hr (Fin.ext h.symm)), mul_zero]
  · intro h; exact absurd (Finset.mem_univ _) h

/-- The kernel's result. -/
theorem result_eq (d : Dev nD) :
    Ve m d (out (Vd m) Bnd d) (R main_v20)
      = logits (m ((d : Thread nD τ).loc main_arg0)) (m ((d : Thread nD τ).loc main_arg1)) (m ((d : Thread nD τ).loc main_arg2))
          (m ((d : Thread nD τ).loc main_arg3)) (m ((d : Thread nD τ).loc main_arg4)) := by
  funext i
  obtain ⟨b, t, v, rfl⟩ : ∃ (b : Fin 32) (t : Fin 8) (v : Fin 100000), i = ix3 b t v := ⟨i 0, i 1, i 2, (ix3_eta i).symm⟩
  rw [out_eq]
  unfold Ve opsC R
  after_reads_at
  rw [Function.update_self]
  have hb := b.isLt
  have ht := t.isLt
  generalize hn : (⟨b.val * 8 + t.val, by omega⟩ : Fin 256) = n
  have hnv : n.val = b.val * 8 + t.val := by rw [← hn]
  have htok : tokenOf m d n = m ((d : Thread nD τ).loc main_arg0) (ix2 b t) := by
    unfold tokenOf
    refine congrArg (m ((d : Thread nD τ).loc main_arg0)) ?_
    funext a
    match a with
    | ⟨0, _⟩ => refine Fin.ext ?_; show n.val / 8 = b.val; omega
    | ⟨1, _⟩ => refine Fin.ext ?_; show n.val % 8 = t.val; omega
  have hw : (tokenOf m d n).toNat < 100000 := hv d _
  unfold product logits
  refine congrArg₂ (fun x y : EReal => x + y) (Finset.sum_congr rfl fun j _ => ?_) (bias_at m d 0 v)
  refine congrArg₂ (fun x y : EReal => x * y) ?_ (congrFun (mat_eq m d) _)
  refine (emb_at (Vd m) d n j).trans ?_
  rw [group_eq m hv d n j]
  refine congrArg₂ (fun x y : EReal => x + y) ?_ ?_
  · refine congrArg (m (tLoc d)) ?_
    funext a
    match a with
    | ⟨0, _⟩ =>
      refine Fin.ext ?_
      show (tokenOf m d n).toNat = (m ((d : Thread nD τ).loc main_arg0) (ix2 b t) : BitVec 32).toNat % 100000
      rw [← htok]; exact (Nat.mod_eq_of_lt hw).symm
    | ⟨1, _⟩ => rfl
  · refine (pos_at m d n j).trans (congrArg (m ((d : Thread nD τ).loc main_arg2)) ?_)
    funext a
    match a with
    | ⟨0, _⟩ => refine Fin.ext ?_; show n.val % 8 = t.val; omega
    | ⟨1, _⟩ => rfl

end Cert.Proof

end
-- ==== Proof.Plain.lean ====
/-
  The reference's two lookups, for tokens in the vocabulary. Its lookup wraps a negative index, masks one out of range
  and reads the table at the clamped index: a token in the vocabulary and a position among the first eight are none of
  these, and each reads its own row.
-/
module

public import proofs.«01_k».proof.Proof.Gen.ReferenceIdeal.Run
public import Idealize.ShloMosaic.Lib.ReduceAll
public import Idealize.ShloMosaic.Lib.WordCmp
public import Idealize.ShloMosaic.Lib.Pointwise
public import Idealize.ShloMosaic.Lib.Tactic.WordOmega

@[expose] public section

set_option maxRecDepth 16384

noncomputable section

namespace Cert.Proof

open Idealize.ShloMosaic
open Idealize.ShloMosaic.TcCoe

open Cert.ReferenceIdeal Cert.ReferenceIdeal.Gen

/-! ## The tokens -/

/-- The tokens, a negative one wrapped. -/
def wrapped (idx : IVec S32x8 32) : IVec S32x8 32 :=
  select (cmpi .slt idx (broadcastInDim S32x8 ![] bcast_S_S32x8 (constantI S_ 32 0#32))) (addi idx (broadcastInDim S32x8 ![] bcast_S_S32x8 (constantI S_ 32 100000#32))) idx

/-- A token in the vocabulary stays. -/
theorem wrapped_eq (idx : IVec S32x8 32) (hv : ∀ i, (idx i).toNat < 100000) : wrapped idx = idx := by
  funext i
  obtain ⟨b, t, rfl⟩ : ∃ (b : Fin 32) (t : Fin 8), i = ix2 b t := ⟨i 0, i 1, (ix2_eta i).symm⟩
  have h := hv (ix2 b t)
  unfold wrapped
  pointwise
  clear hv
  generalize idx (ix2 b t) = w at h ⊢
  rw [show IntOp.cmpi .slt w 0#32 = 0#1 by word_omega]
  rfl

/-- The rows looked up by tokens, those out of range masked. -/
def tokenRows (idx : IVec S32x8 32) (tok : FVec Ideal S100000x64 .f32) : FVec Ideal S32x8x64 .f32 :=
  select (broadcastInDim S32x8x64 ![0, 1] bcast_S32x8_S32x8x64_0_1 (Host.reduce IntOp.andi (andi (cmpi .sge (broadcastInDim S32x8x1 ![0, 1] bcast_S32x8_S32x8x1_0_1 idx) (broadcastInDim S32x8x1 ![] bcast_S_S32x8x1 (constantI S_ 32 0#32))) (cmpi .sle (broadcastInDim S32x8x1 ![0, 1] bcast_S32x8_S32x8x1_0_1 idx) (broadcastInDim S32x8x1 ![0, 1, 2] bcast_S1x1x1_S32x8x1_0_1_2 (broadcastInDim S1x1x1 ![2] bcast_S1_S1x1x1_2 (constantI S1 32 99999#32))))) (constantI S_ 1 1#1) reducesTo_S32x8x1_S32x8_d2 h_S_))
    (Host.gather gather_S100000x64_S32x8x1_S32x8x64_2_0_n_n_0_2_164 tok (broadcastInDim S32x8x1 ![0, 1] bcast_S32x8_S32x8x1_0_1 idx))
    (broadcastInDim S32x8x64 ![] bcast_S_S32x8x64 (constant S_ .f32 0x7FC00000#32))

/-- The gather's element: the table's row at the token, clamped. -/
theorem gather_token (idx : IVec S32x8x1 32) (tok : FVec Ideal S100000x64 .f32) (b : Fin 32) (t : Fin 8) (j : Fin 64)
    (k : Fin 100000) (hk : min (idx (ix3 b t 0)).toInt.toNat 99999 = k.val) :
    Host.gather gather_S100000x64_S32x8x1_S32x8x64_2_0_n_n_0_2_164 tok idx (ix3 b t j) = tok (ix2 k j) := by
  have hbc : ∀ a, gather_S100000x64_S32x8x1_S32x8x64_2_0_n_n_0_2_164.batchCoord (ix3 b t j) a = 0 := fun a =>
    GatherDims.batchCoord_eq_zero _ _ _ List.not_mem_nil
  have hsi : gather_S100000x64_S32x8x1_S32x8x64_2_0_n_n_0_2_164.siIdx (ix3 b t j) ⟨0, Nat.one_pos⟩ = ix3 b t 0 := by
    funext c
    refine Fin.ext ?_
    match c with
    | ⟨0, _⟩ => rfl
    | ⟨1, _⟩ => rfl
    | ⟨2, _⟩ => rfl
  refine congrArg tok ?_
  funext a
  refine Fin.ext ?_
  show gather_S100000x64_S32x8x1_S32x8x64_2_0_n_n_0_2_164.start (ix3 b t j) idx a + gather_S100000x64_S32x8x1_S32x8x64_2_0_n_n_0_2_164.batchCoord (ix3 b t j) a
    + gather_S100000x64_S32x8x1_S32x8x64_2_0_n_n_0_2_164.offCoord (ix3 b t j) a = _
  rw [hbc]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl))]
    unfold GatherDims.start
    rw [dif_pos (show (0 : Fin 2) ∈ gather_S100000x64_S32x8x1_S32x8x64_2_0_n_n_0_2_164.startIndexMap from List.mem_singleton.mpr rfl)]
    refine Eq.trans ?_ hk
    rw [← hsi]
    rfl
  · unfold GatherDims.start
    rw [dif_neg (show (1 : Fin 2) ∉ gather_S100000x64_S32x8x1_S32x8x64_2_0_n_n_0_2_164.startIndexMap from by decide)]
    show 0 + 0 + _ = j.val
    rw [Nat.zero_add]
    rfl

/-- For tokens in the vocabulary the lookup reads each token's own row. -/
theorem tokenRows_at (idx : IVec S32x8 32) (tok : FVec Ideal S100000x64 .f32) (hv : ∀ i, (idx i).toNat < 100000)
    (b : Fin 32) (t : Fin 8) (j : Fin 64) (k : Fin 100000) (hk : k.val = (idx (ix2 b t)).toNat) :
    tokenRows idx tok (ix3 b t j) = tok (ix2 k j) := by
  unfold tokenRows
  pointwise
  have h := hv (ix2 b t)
  rw [gather_token _ tok b t j k (by
    pointwise
    clear hv
    generalize idx (ix2 b t) = w at hk h ⊢
    rw [BitVec.toInt_eq_toNat_of_lt (by omega)]
    omega)]
  clear hv hk
  generalize idx (ix2 b t) = w at h ⊢
  rw [show IntOp.cmpi .sge w 0#32 = 1#1 by word_omega, show IntOp.cmpi .sle w 99999#32 = 1#1 by word_omega]
  rfl

/-! ## The positions -/

/-- The modulus of the positions, guarded against zero. -/
def modulus : IVec S_ 32 := select (cmpi .eq (id (constantI S_ 32 2048#32)) (constantI S_ 32 0#32)) (constantI S_ 32 1#32) (id (constantI S_ 32 2048#32))

/-- The signed remainder of the eight positions. -/
def remainder : IVec S8 32 := Host.remsi (iotaInDim S8 32 0) (broadcastInDim S8 ![] bcast_S_S8 modulus)

/-- The remainder with the modulus's sign. -/
def signed : IVec S8 32 :=
  select (andi (cmpi .ne (cmpi .slt remainder (broadcastInDim S8 ![] bcast_S_S8 (constantI S_ 32 0#32))) (broadcastInDim S8 ![] bcast_S_S8 (cmpi .slt modulus (constantI S_ 32 0#32)))) (cmpi .ne remainder (broadcastInDim S8 ![] bcast_S_S8 (constantI S_ 32 0#32)))) (addi remainder (broadcastInDim S8 ![] bcast_S_S8 modulus)) remainder

/-- The positions looked up, a negative one wrapped. -/
def places : IVec S8 32 :=
  select (cmpi .slt signed (broadcastInDim S8 ![] bcast_S_S8 (constantI S_ 32 0#32))) (addi signed (broadcastInDim S8 ![] bcast_S_S8 (constantI S_ 32 2048#32))) signed

/-- They are the eight positions. -/
theorem places_at (t : Fin 8) : places (ix1 t) = BitVec.ofNat 32 t.val := by
  revert t
  decide +kernel

/-- The rows looked up by positions, those out of range masked. -/
def placeRows (p : IVec S8 32) (pos : FVec Ideal S2048x64 .f32) : FVec Ideal S8x64 .f32 :=
  select (broadcastInDim S8x64 ![0] bcast_S8_S8x64_0 (Host.reduce IntOp.andi (andi (cmpi .sge (broadcastInDim S8x1 ![0] bcast_S8_S8x1_0 p) (broadcastInDim S8x1 ![] bcast_S_S8x1 (constantI S_ 32 0#32))) (cmpi .sle (broadcastInDim S8x1 ![0] bcast_S8_S8x1_0 p) (broadcastInDim S8x1 ![0, 1] bcast_S1x1_S8x1_0_1 (broadcastInDim S1x1 ![1] bcast_S1_S1x1_1 (constantI S1 32 2047#32))))) (constantI S_ 1 1#1) reducesTo_S8x1_S8_d1 h_S_))
    (Host.gather gather_S2048x64_S8x1_S8x64_1_0_n_n_0_1_164 pos (broadcastInDim S8x1 ![0] bcast_S8_S8x1_0 p))
    (broadcastInDim S8x64 ![] bcast_S_S8x64 (constant S_ .f32 0x7FC00000#32))

/-- The gather's element: the table's row at the position, clamped. -/
theorem gather_place (idx : IVec S8x1 32) (pos : FVec Ideal S2048x64 .f32) (t : Fin 8) (j : Fin 64)
    (k : Fin 2048) (hk : min (idx (ix2 t 0)).toInt.toNat 2047 = k.val) :
    Host.gather gather_S2048x64_S8x1_S8x64_1_0_n_n_0_1_164 pos idx (ix2 t j) = pos (ix2 k j) := by
  have hbc : ∀ a, gather_S2048x64_S8x1_S8x64_1_0_n_n_0_1_164.batchCoord (ix2 t j) a = 0 := fun a =>
    GatherDims.batchCoord_eq_zero _ _ _ List.not_mem_nil
  have hsi : gather_S2048x64_S8x1_S8x64_1_0_n_n_0_1_164.siIdx (ix2 t j) ⟨0, Nat.one_pos⟩ = ix2 t 0 := by
    funext c
    refine Fin.ext ?_
    match c with
    | ⟨0, _⟩ => rfl
    | ⟨1, _⟩ => rfl
  refine congrArg pos ?_
  funext a
  refine Fin.ext ?_
  show gather_S2048x64_S8x1_S8x64_1_0_n_n_0_1_164.start (ix2 t j) idx a + gather_S2048x64_S8x1_S8x64_1_0_n_n_0_1_164.batchCoord (ix2 t j) a + gather_S2048x64_S8x1_S8x64_1_0_n_n_0_1_164.offCoord (ix2 t j) a = _
  rw [hbc]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl))]
    unfold GatherDims.start
    rw [dif_pos (show (0 : Fin 2) ∈ gather_S2048x64_S8x1_S8x64_1_0_n_n_0_1_164.startIndexMap from List.mem_singleton.mpr rfl)]
    refine Eq.trans ?_ hk
    rw [← hsi]
    rfl
  · unfold GatherDims.start
    rw [dif_neg (show (1 : Fin 2) ∉ gather_S2048x64_S8x1_S8x64_1_0_n_n_0_1_164.startIndexMap from by decide)]
    show 0 + 0 + _ = j.val
    rw [Nat.zero_add]
    rfl

/-- The lookup reads each position's own row. -/
theorem placeRows_at (pos : FVec Ideal S2048x64 .f32) (t : Fin 8) (j : Fin 64) (k : Fin 2048) (hk : k.val = t.val) :
    placeRows places pos (ix2 t j) = pos (ix2 k j) := by
  have h := places_at t
  have ht := t.isLt
  unfold placeRows
  pointwise
  rw [gather_place _ pos t j k (by
    pointwise
    rw [h, BitVec.toInt_eq_toNat_of_lt (by rw [BitVec.toNat_ofNat]; omega), BitVec.toNat_ofNat]
    omega), h]
  generalize hw : BitVec.ofNat 32 t.val = w
  have hn : w.toNat < 8 := by rw [← hw, BitVec.toNat_ofNat]; omega
  clear hw h hk
  rw [show IntOp.cmpi .sge w 0#32 = 1#1 by word_omega, show IntOp.cmpi .sle w 2047#32 = 1#1 by word_omega]
  rfl

/-! ## The result -/

/-- The reference as a function of its arguments, by its two lookups. -/
def plain (idx : IVec S32x8 32) (tok : FVec Ideal S100000x64 .f32) (pos : FVec Ideal S2048x64 .f32) (W : FVec Ideal S64x100000 .f32)
    (bias : FVec Ideal S100000 .f32) : FVec Ideal S32x8x100000 .f32 :=
  addf (Host.dotGeneral dot_S32x8x64_S64x100000_S32x8x100000_2_0_01_1_n_n none
      (addf (tokenRows (wrapped idx) tok)
        (broadcastInDim S32x8x64 ![0, 1, 2] bcast_S1x8x64_S32x8x64_0_1_2 (broadcastInDim S1x8x64 ![1, 2] bcast_S8x64_S1x8x64_1_2 (placeRows places pos))))
      W)
    (broadcastInDim S32x8x100000 ![0, 1, 2] bcast_S1x1x100000_S32x8x100000_0_1_2 (broadcastInDim S1x1x100000 ![2] bcast_S100000_S1x1x100000_2 bias))

/-- The result of the reference's run is that function of its arguments. -/
theorem res_eq (m : (ℓ : Loc nD τ sig) → Buf (Elt Ideal) ℓ) (d : Dev nD) : Value.res_main_v10 m d
    = plain (m ((d : Thread nD τ).loc main_arg0)) (m ((d : Thread nD τ).loc main_arg1)) (m ((d : Thread nD τ).loc main_arg2))
        (m ((d : Thread nD τ).loc main_arg3)) (m ((d : Thread nD τ).loc main_arg4)) := rfl

/-- What the reference computes at batch `b`, position `t` and word `v`. -/
theorem plain_at (idx : IVec S32x8 32) (tok : FVec Ideal S100000x64 .f32) (pos : FVec Ideal S2048x64 .f32) (W : FVec Ideal S64x100000 .f32)
    (bias : FVec Ideal S100000 .f32) (hv : ∀ i, (idx i).toNat < 100000)
    (b : Fin 32) (t : Fin 8) (v : Fin 100000) (k : Fin 100000) (hk : k.val = (idx (ix2 b t)).toNat) (p : Fin 2048) (hp : p.val = t.val) :
    plain idx tok pos W bias (ix3 b t v)
      = (∑ j : Fin 64, ((tok (ix2 k j) + pos (ix2 p j)) * W (ix2 j v) : EReal)) + (bias (ix1 v) : EReal) := by
  unfold plain
  rw [wrapped_eq idx hv]
  pointwise
  refine congrArg (· + bias (ix1 v)) (Finset.sum_congr rfl fun j _ => ?_)
  rw [tokenRows_at idx tok hv b t j k hk, placeRows_at pos t j p hp]

end Cert.Proof

end
-- ==== Proof.Equal.lean ====
/-
  The equality of the kernel with the reference, on extended reals: both end with the same logits.
-/
module

public import proofs.«01_k».proof.Proof.Result
public import proofs.«01_k».proof.Proof.Plain
public import proofs.«01_k».proof.Proof.Frames

@[expose] public section

noncomputable section

namespace Cert.Proof

open Idealize.ShloMosaic Idealize.SL.Sem
open Idealize.ShloMosaic.TcCoe

attribute [local instance] Cert.ReferenceIdeal.Gen.facts Cert.Pre_in_vocab.Gen.facts

/-- For tokens in the vocabulary the reference computes the logits. -/
theorem plain_eq (idx : Vec Ideal Cert.KernelIdeal.S32x8 .i32) (tok : Vec Ideal Cert.KernelIdeal.S100000x64 .f32)
    (pos : Vec Ideal Cert.KernelIdeal.S2048x64 .f32) (W : Vec Ideal Cert.KernelIdeal.S64x100000 .f32) (bias : Vec Ideal Cert.KernelIdeal.S100000 .f32)
    (hv : ∀ i, (idx i : BitVec 32).toNat < 100000) : plain idx tok pos W bias = logits idx tok pos W bias := by
  funext i
  obtain ⟨b, t, v, rfl⟩ : ∃ (b : Fin 32) (t : Fin 8) (v : Fin 100000), i = ix3 b t v := ⟨i 0, i 1, i 2, (ix3_eta i).symm⟩
  exact plain_at idx tok pos W bias hv b t v ⟨(idx (ix2 b t)).toNat % 100000, Nat.mod_lt _ (by decide)⟩ (Nat.mod_eq_of_lt (hv _))
    ⟨t.val, lt_trans t.isLt (by decide)⟩ rfl

/-- The two programs, on extended reals and tokens in the vocabulary, end with equal results. -/
theorem equal : Cert.algebraic_KernelIdeal_ReferenceIdeal (hKernelIdeal := Cert.KernelIdeal.Gen.facts) := by
  intro m g m' g' hp hm
  have hv : ∀ (d : Dev Cert.KernelIdeal.nD) i, (m ((d : Thread Cert.KernelIdeal.nD Cert.KernelIdeal.τ).loc Cert.KernelIdeal.main_arg0) i : BitVec 32).toNat < 100000 :=
    fun d i => vocab_of_pre _ _ _ _ _ (hp d) i
  refine ⟨fun d => logits (m ((d : Thread Cert.KernelIdeal.nD Cert.KernelIdeal.τ).loc Cert.KernelIdeal.main_arg0)) (m ((d : Thread Cert.KernelIdeal.nD Cert.KernelIdeal.τ).loc Cert.KernelIdeal.main_arg1))
    (m ((d : Thread Cert.KernelIdeal.nD Cert.KernelIdeal.τ).loc Cert.KernelIdeal.main_arg2)) (m ((d : Thread Cert.KernelIdeal.nD Cert.KernelIdeal.τ).loc Cert.KernelIdeal.main_arg3))
    (m ((d : Thread Cert.KernelIdeal.nD Cert.KernelIdeal.τ).loc Cert.KernelIdeal.main_arg4)), ?_, ?_⟩
  · refine (θ_run _ _ _).mono (fun r h d => ?_) (run_main (F := Ideal) m g false (fun _ => columnLocal) hv)
    obtain ⟨hargs, o, ho, hres⟩ := h.1 d
    refine ⟨hres.trans ?_, hargs⟩
    rw [ho rfl]
    exact result_eq m hv d
  · refine (θ_run _ _ _).mono (fun r h d => ⟨(h d).1.trans ?_, (h d).2⟩) (Cert.ReferenceIdeal.Value.run m' g')
    obtain ⟨h0, h1, h2, h3, h4⟩ := hm d
    refine (res_eq m' d).trans ?_
    refine Eq.trans ?_ (plain_eq _ _ _ _ _ (hv d))
    rw [← h0, ← h1, ← h2, ← h3, ← h4]

end Cert.Proof

end
-- ==== Proof.lean ====
/-
  The claims, assembled: the frames, the preservation, and the equality of the kernel with the reference.
-/
module

public import proofs.«01_k».proof.Proof.Frames
public import proofs.«01_k».proof.Proof.Equal
public import proofs.«01_k».proof.Defs

@[expose] public section

noncomputable section

namespace Cert.Proof

open Idealize.ShloMosaic Idealize.SL.Sem Cert.Kernel

/-- Every claim about the two programs. -/
theorem claim : Cert.Claim :=
  ⟨Cert.Kernel.Gen.facts, Cert.KernelIdeal.Gen.facts, Cert.ReferenceIdeal.Gen.facts, Cert.Pre_in_vocab.Gen.facts,
    frame_kernel, frame_ideal, frame_reference, frame_reference_pre, trivial, equal⟩

end Cert.Proof

end
